-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![128, 128]⟩ ⟨2, ![128, 512]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 256]⟩ ⟨2, ![512, 256]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![128, 256]⟩ ⟨2, ![512, 256]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![512, 256]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 128]⟩ ⟨2, ![256, 512]⟩ 1 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 128]⟩ ⟨2, ![256, 512]⟩ 1 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![256, 128]⟩ ⟨2, ![256, 512]⟩ 1 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 128]⟩ ⟨2, ![128, 512]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S128x128 : Shape := ⟨2, ![128, 128]⟩
abbrev S128x256 : Shape := ⟨2, ![128, 256]⟩
abbrev S256x128 : Shape := ⟨2, ![256, 128]⟩
abbrev S_ : Shape := ⟨0, ![]⟩

class Facts : Prop where
  bcast_S_S128x128 : S_.BroadcastsInDim S128x128 (![] : Fin 0 → Fin S128x128.rank)
  reducesTo_S128x128_S_d0_1 : S128x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg4 : FVec F S256x128 .bf16) (main_arg5 : FVec F S256x128 .bf16) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x128 .bf16 := Host.absf main_arg4
  let main_cst_6 : FVec F S_ .bf16 := constant S_ .bf16 0x7F80#16
  let main_v20 : FVec F S256x128 .bf16 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256x128 .bf16 := Host.absf main_arg5
  let main_cst_8 : FVec F S_ .bf16 := constant S_ .bf16 0x7F80#16
  let main_v25 : FVec F S256x128 .bf16 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  main_v28

def fn {F : FTy → Type} [FloatOps F] (main_arg0 : FVec F S128x128 .bf16) (main_arg1 : FVec F S128x256 .bf16) (main_arg2 : FVec F S128x256 .bf16) (main_arg3 : FVec F S128x256 .bf16) (main_arg4 : FVec F S256x128 .bf16) (main_arg5 : FVec F S256x128 .bf16) (main_arg6 : FVec F S256x128 .bf16) : IVec S_ 1 :=
  let main_v0 : FVec F S128x128 .bf16 := Host.absf main_arg0
  let main_cst : FVec F S_ .bf16 := constant S_ .bf16 0x7F80#16
  let main_v1 : FVec F S128x128 .bf16 := broadcastInDim S128x128 ![] bcast_S_S128x128 main_cst
  let main_v2 : IVec S128x128 1 := cmpf .olt main_v0 main_v1
  let main_c : IVec S_ 1 := constantI S_ 1 1#1
  let main_v3 : IVec S_ 1 := (fun x v => Host.reduce IntOp.andi x v reducesTo_S128x128_S_d0_1 h_S_) main_v2 main_c
  let main_v4 : FVec F S128x256 .bf16 := Host.absf main_arg1
  let main_cst_0 : FVec F S_ .bf16 := constant S_ .bf16 0x7F80#16
  let main_v5 : FVec F S128x256 .bf16 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .bf16 := Host.absf main_arg2
  let main_cst_2 : FVec F S_ .bf16 := constant S_ .bf16 0x7F80#16
  let main_v10 : FVec F S128x256 .bf16 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128x256 .bf16 := Host.absf main_arg3
  let main_cst_4 : FVec F S_ .bf16 := constant S_ .bf16 0x7F80#16
  let main_v15 : FVec F S128x256 .bf16 := broadcastInDim S128x256 ![] bcast_S_S128x256 main_cst_4
  let main_v16 : IVec S128x256 1 := cmpf .olt main_v14 main_v15
  fn_part1 (F := F) main_arg4 main_arg5 main_v13 main_v16
-- ==== Pre_finite_ReferenceIdeal.lean ====
abbrev S128x512 : Shape := ⟨2, ![128, 512]⟩
abbrev S512x256 : Shape := ⟨2, ![512, 256]⟩
abbrev S256x512 : Shape := ⟨2, ![256, 512]⟩
abbrev S_ : Shape := ⟨0, ![]⟩

class Facts : Prop where
  bcast_S_S128x512 : S_.BroadcastsInDim S128x512 (![] : Fin 0 → Fin S128x512.rank)
  reducesTo_S128x512_S_d0_1 : S128x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256x512 : S_.BroadcastsInDim S256x512 (![] : Fin 0 → Fin S256x512.rank)
  reducesTo_S256x512_S_d0_1 : S256x512.ReducesTo [0, 1] S_

variable [Facts]

def fn_part1 {F : FTy → Type} [FloatOps F] (main_arg4 : FVec F S256x512 .bf16) (main_arg5 : FVec F S256x512 .bf16) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256x512 .bf16 := Host.absf main_arg4
  let main_cst_6 : FVec F S_ .bf16 := constant S_ .bf16 0x7F80#16
  let main_v20 : FVec F S256x512 .bf16 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S256x512 .bf16 := Host.absf main_arg5
  let main_cst_8 : FVec F S_ .bf16 := constant S_ .bf16 0x7F80#16
  let main_v25 : FVec F S256x512 .bf16 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  main_v28

def fn {F : FTy → Type} [FloatOps F] (main_arg0 : FVec F S128x512 .bf16) (main_arg1 : FVec F S512x256 .bf16) (main_arg2 : FVec F S512x256 .bf16) (main_arg3 : FVec F S512x256 .bf16) (main_arg4 : FVec F S256x512 .bf16) (main_arg5 : FVec F S256x512 .bf16) (main_arg6 : FVec F S256x512 .bf16) : IVec S_ 1 :=
  let main_v0 : FVec F S128x512 .bf16 := Host.absf main_arg0
  let main_cst : FVec F S_ .bf16 := constant S_ .bf16 0x7F80#16
  let main_v1 : FVec F S128x512 .bf16 := broadcastInDim S128x512 ![] bcast_S_S128x512 main_cst
  let main_v2 : IVec S128x512 1 := cmpf .olt main_v0 main_v1
  let main_c : IVec S_ 1 := constantI S_ 1 1#1
  let main_v3 : IVec S_ 1 := (fun x v => Host.reduce IntOp.andi x v reducesTo_S128x512_S_d0_1 h_S_) main_v2 main_c
  let main_v4 : FVec F S512x256 .bf16 := Host.absf main_arg1
  let main_cst_0 : FVec F S_ .bf16 := constant S_ .bf16 0x7F80#16
  let main_v5 : FVec F S512x256 .bf16 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512x256 .bf16 := Host.absf main_arg2
  let main_cst_2 : FVec F S_ .bf16 := constant S_ .bf16 0x7F80#16
  let main_v10 : FVec F S512x256 .bf16 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S512x256 .bf16 := Host.absf main_arg3
  let main_cst_4 : FVec F S_ .bf16 := constant S_ .bf16 0x7F80#16
  let main_v15 : FVec F S512x256 .bf16 := broadcastInDim S512x256 ![] bcast_S_S512x256 main_cst_4
  let main_v16 : IVec S512x256 1 := cmpf .olt main_v14 main_v15
  fn_part1 (F := F) main_arg4 main_arg5 main_v13 main_v16
-- ==== Kernel.lean ====
abbrev S128x128 : Shape := ⟨2, ![128, 128]⟩
abbrev S128x256 : Shape := ⟨2, ![128, 256]⟩
abbrev S256x128 : Shape := ⟨2, ![256, 128]⟩
abbrev S3x4x128x256 : Shape := ⟨4, ![3, 4, 128, 256]⟩
abbrev S3x3 : Shape := ⟨2, ![3, 3]⟩
abbrev S_ : Shape := ⟨0, ![]⟩
abbrev S1x1x128x256 : Shape := ⟨4, ![1, 1, 128, 256]⟩
abbrev S1x1 : Shape := ⟨2, ![1, 1]⟩
abbrev S256x256 : Shape := ⟨2, ![256, 256]⟩

abbrev nBuf : Space → Nat
  | .hbm => 8
  | .vmem => 9
  | .smem => 0
  | _ => 0

abbrev bufTy : (tb : Table) → Fin (tcTables nBuf tb) → BufTy
  | .hbm, ⟨0, _⟩ => ⟨S128x128, .bf16⟩
  | .hbm, ⟨1, _⟩ => ⟨S128x256, .bf16⟩
  | .hbm, ⟨2, _⟩ => ⟨S128x256, .bf16⟩
  | .hbm, ⟨3, _⟩ => ⟨S128x256, .bf16⟩
  | .hbm, ⟨4, _⟩ => ⟨S256x128, .bf16⟩
  | .hbm, ⟨5, _⟩ => ⟨S256x128, .bf16⟩
  | .hbm, ⟨6, _⟩ => ⟨S256x128, .bf16⟩
  | .hbm, ⟨7, _⟩ => ⟨S128x128, .f32⟩
  | .local _ .vmem, ⟨0, _⟩ => ⟨S128x128, .bf16⟩
  | .local _ .vmem, ⟨1, _⟩ => ⟨S128x256, .bf16⟩
  | .local _ .vmem, ⟨2, _⟩ => ⟨S256x128, .bf16⟩
  | .local _ .vmem, ⟨3, _⟩ => ⟨S128x256, .bf16⟩
  | .local _ .vmem, ⟨4, _⟩ => ⟨S256x128, .bf16⟩
  | .local _ .vmem, ⟨5, _⟩ => ⟨S128x256, .bf16⟩
  | .local _ .vmem, ⟨6, _⟩ => ⟨S256x128, .bf16⟩
  | .local _ .vmem, ⟨7, _⟩ => ⟨S128x128, .f32⟩
  | .local _ .vmem, ⟨8, _⟩ => ⟨S3x4x128x256, .bf16⟩
  | _, _ => ⟨S128x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_20 : BitVec 32 := 1#32
  let v25 : BitVec 32 := Scalar.addi v2 c1_i32_20
  let c4_i32_21 : BitVec 32 := 4#32
  let v26 : BitVec 32 := Scalar.remsi v25 c4_i32_21
  let c1_i32_30 : BitVec 32 := 1#32
  let v27 : BitVec 32 := Scalar.muli v26 c1_i32_30
  let v28 : BitVec 32 := Scalar.addi c0_i32_31 v27
  v28.toNat
def k0_dev5 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_36 : BitVec 32 := 2#32
  let v37 : BitVec 32 := Scalar.addi v2 c2_i32_36
  let c4_i32_37 : BitVec 32 := 4#32
  let v38 : BitVec 32 := Scalar.remsi v37 c4_i32_37
  let c1_i32_46 : BitVec 32 := 1#32
  let v39 : BitVec 32 := Scalar.muli v38 c1_i32_46
  let v40 : BitVec 32 := Scalar.addi c0_i32_47 v39
  v40.toNat
def k0_dev6 (d0 : Dev nD) : Nat :=
  let c0_i32_63 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_52 : BitVec 32 := 3#32
  let v49 : BitVec 32 := Scalar.addi v2 c3_i32_52
  let c4_i32_53 : BitVec 32 := 4#32
  let v50 : BitVec 32 := Scalar.remsi v49 c4_i32_53
  let c1_i32_62 : BitVec 32 := 1#32
  let v51 : BitVec 32 := Scalar.muli v50 c1_i32_62
  let v52 : BitVec 32 := Scalar.addi c0_i32_63 v51
  v52.toNat
def k0_dev7 (d0 : Dev nD) : Nat :=
  let c0_i32_152 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_141 : BitVec 32 := 1#32
  let v122 : BitVec 32 := Scalar.addi v2 c1_i32_141
  let c4_i32_142 : BitVec 32 := 4#32
  let v123 : BitVec 32 := Scalar.remsi v122 c4_i32_142
  let c1_i32_151 : BitVec 32 := 1#32
  let v124 : BitVec 32 := Scalar.muli v123 c1_i32_151
  let v125 : BitVec 32 := Scalar.addi c0_i32_152 v124
  v125.toNat
def k0_dev8 (d0 : Dev nD) : Nat :=
  let c0_i32_168 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_157 : BitVec 32 := 2#32
  let v134 : BitVec 32 := Scalar.addi v2 c2_i32_157
  let c4_i32_158 : BitVec 32 := 4#32
  let v135 : BitVec 32 := Scalar.remsi v134 c4_i32_158
  let c1_i32_167 : BitVec 32 := 1#32
  let v136 : BitVec 32 := Scalar.muli v135 c1_i32_167
  let v137 : BitVec 32 := Scalar.addi c0_i32_168 v136
  v137.toNat
def k0_dev9 (d0 : Dev nD) : Nat :=
  let c0_i32_184 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_173 : BitVec 32 := 3#32
  let v146 : BitVec 32 := Scalar.addi v2 c3_i32_173
  let c4_i32_174 : BitVec 32 := 4#32
  let v147 : BitVec 32 := Scalar.remsi v146 c4_i32_174
  let c1_i32_183 : BitVec 32 := 1#32
  let v148 : BitVec 32 := Scalar.muli v147 c1_i32_183
  let v149 : BitVec 32 := Scalar.addi c0_i32_184 v148
  v149.toNat
def k0_dev10 (d0 : Dev nD) : Nat :=
  let c0_i32_264 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_253 : BitVec 32 := 1#32
  let v205 : BitVec 32 := Scalar.addi v2 c1_i32_253
  let c4_i32_254 : BitVec 32 := 4#32
  let v206 : BitVec 32 := Scalar.remsi v205 c4_i32_254
  let c1_i32_263 : BitVec 32 := 1#32
  let v207 : BitVec 32 := Scalar.muli v206 c1_i32_263
  let v208 : BitVec 32 := Scalar.addi c0_i32_264 v207
  v208.toNat
def k0_dev11 (d0 : Dev nD) : Nat :=
  let c0_i32_280 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_269 : BitVec 32 := 2#32
  let v217 : BitVec 32 := Scalar.addi v2 c2_i32_269
  let c4_i32_270 : BitVec 32 := 4#32
  let v218 : BitVec 32 := Scalar.remsi v217 c4_i32_270
  let c1_i32_279 : BitVec 32 := 1#32
  let v219 : BitVec 32 := Scalar.muli v218 c1_i32_279
  let v220 : BitVec 32 := Scalar.addi c0_i32_280 v219
  v220.toNat
def k0_dev12 (d0 : Dev nD) : Nat :=
  let c0_i32_296 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_285 : BitVec 32 := 3#32
  let v229 : BitVec 32 := Scalar.addi v2 c3_i32_285
  let c4_i32_286 : BitVec 32 := 4#32
  let v230 : BitVec 32 := Scalar.remsi v229 c4_i32_286
  let c1_i32_295 : BitVec 32 := 1#32
  let v231 : BitVec 32 := Scalar.muli v230 c1_i32_295
  let v232 : BitVec 32 := Scalar.addi c0_i32_296 v231
  v232.toNat
abbrev stage0_0 : Fin 1 → Memref sig .tc .vmem S128x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S128x512 : Shape := ⟨2, ![128, 512]⟩
abbrev S512x256 : Shape := ⟨2, ![512, 256]⟩
abbrev S256x512 : Shape := ⟨2, ![256, 512]⟩
abbrev S128x256 : Shape := ⟨2, ![128, 256]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S128x512, .bf16⟩
  | .hbm, ⟨1, _⟩ => ⟨S512x256, .bf16⟩
  | .hbm, ⟨2, _⟩ => ⟨S512x256, .bf16⟩
  | .hbm, ⟨3, _⟩ => ⟨S512x256, .bf16⟩
  | .hbm, ⟨4, _⟩ => ⟨S256x512, .bf16⟩
  | .hbm, ⟨5, _⟩ => ⟨S256x512, .bf16⟩
  | .hbm, ⟨6, _⟩ => ⟨S256x512, .bf16⟩
  | .hbm, ⟨7, _⟩ => ⟨S128x256, .f32⟩
  | .hbm, ⟨8, _⟩ => ⟨S128x256, .bf16⟩
  | .hbm, ⟨9, _⟩ => ⟨S_, .bf16⟩
  | .hbm, ⟨10, _⟩ => ⟨S128x256, .bf16⟩
  | .hbm, ⟨11, _⟩ => ⟨S128x256, .bf16⟩
  | .hbm, ⟨12, _⟩ => ⟨S128x512, .f32⟩
  | .hbm, ⟨13, _⟩ => ⟨S128x512, .bf16⟩
  | .hbm, ⟨14, _⟩ => ⟨S128x256, .f32⟩
  | .hbm, ⟨15, _⟩ => ⟨S128x256, .bf16⟩
  | .hbm, ⟨16, _⟩ => ⟨S_, .bf16⟩
  | .hbm, ⟨17, _⟩ => ⟨S128x256, .bf16⟩
  | .hbm, ⟨18, _⟩ => ⟨S128x256, .bf16⟩
  | .hbm, ⟨19, _⟩ => ⟨S128x512, .f32⟩
  | .hbm, ⟨20, _⟩ => ⟨S128x512, .bf16⟩
  | .hbm, ⟨21, _⟩ => ⟨S128x256, .f32⟩
  | .hbm, ⟨22, _⟩ => ⟨S128x256, .bf16⟩
  | .hbm, ⟨23, _⟩ => ⟨S_, .bf16⟩
  | .hbm, ⟨24, _⟩ => ⟨S128x256, .bf16⟩
  | .hbm, ⟨25, _⟩ => ⟨S128x256, .bf16⟩
  | .hbm, ⟨26, _⟩ => ⟨S128x512, .f32⟩
  | .hbm, ⟨27, _⟩ => ⟨S128x512, .bf16⟩
  | .hbm, ⟨28, _⟩ => ⟨S128x512, .f32⟩
  | _, _ => ⟨S128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.ProtoKernelIdeal.lean ====
/-
# The fused MLP's exchange: buffers, cells, contents and schedule

Four devices; in each of three layers every device multiplies out a partial product, puts it in slot `0` of that
layer's four landing slots and copies it into slot `k` of the device `k` places further round, for `k = 1, 2, 3`.
Before the first copy each device signals the three others on the barrier semaphore and waits for three.

Who pays what, on whose semaphore:

* the barrier cell of `c`, one round of three units: duty `j` is paid by the device `j + 1` places further round, and
  hands `c` that device's slots `j + 1` of all three layers — the slots `c` will write there;
* the receive cell `(ℓ, j)` of `c`, one round of one transfer: paid by the device `j + 1` places back, handing `c`
  its own slot `(ℓ, j + 1)` holding that device's partial product of layer `ℓ`;
* the send cell `(ℓ, j)` of `c`, one round of one transfer: paid by `c` itself, handing back the share of slot
  `(ℓ, 0)` lent to the copy.

A device waits on its barrier while it owes the nine receive cells, and on a receive cell of layer `ℓ` while it owes
those of later layers: the barrier is at level `1`, the receive cells of layer `ℓ` at `2 + ℓ`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's rounds and the exchange's (duties `Fin 3`) -/

abbrev UX : Type := URounds (GSem nD τ sig) (Fin 3)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## Going round the devices -/

set_option backward.proofsInPublic true in
/-- The device `j + 1` places further round. -/
def nx (c : Dev nD) (j : Fin 3) : Dev nD := ⟨(c.val + (j.val + 1)) % 4, Nat.mod_lt _ (by decide)⟩

/-- The device `j + 1` places back: `3 - j` places on. -/
abbrev fr (c : Dev nD) (j : Fin 3) : Dev nD := nx c j.rev

theorem nx_fr (c : Dev nD) (j : Fin 3) : nx (fr c j) j = c := by revert c j; decide
theorem fr_nx (c : Dev nD) (j : Fin 3) : fr (nx c j) j = c := by revert c j; decide

/-- Going `j + 1` places round, as a rearrangement of the devices. -/
def turn (j : Fin 3) : Dev nD ≃ Dev nD := ⟨fun c => nx c j, fun c => fr c j, fun c => fr_nx c j, fun c => nx_fr c j⟩

theorem dev1_eq (c : Dev nD) : (⟨k0_dev1 c, k0_dev1_lt c⟩ : Dev nD) = nx c 0 := Fin.ext (k0_dev1_eq c)
theorem dev2_eq (c : Dev nD) : (⟨k0_dev2 c, k0_dev2_lt c⟩ : Dev nD) = nx c 1 := Fin.ext (k0_dev2_eq c)
theorem dev3_eq (c : Dev nD) : (⟨k0_dev3 c, k0_dev3_lt c⟩ : Dev nD) = nx c 2 := Fin.ext (k0_dev3_eq c)
theorem dev4_eq (c : Dev nD) : (⟨k0_dev4 c, k0_dev4_lt c⟩ : Dev nD) = nx c 0 := Fin.ext (k0_dev4_eq c)
theorem dev5_eq (c : Dev nD) : (⟨k0_dev5 c, k0_dev5_lt c⟩ : Dev nD) = nx c 1 := Fin.ext (k0_dev5_eq c)
theorem dev6_eq (c : Dev nD) : (⟨k0_dev6 c, k0_dev6_lt c⟩ : Dev nD) = nx c 2 := Fin.ext (k0_dev6_eq c)
theorem dev7_eq (c : Dev nD) : (⟨k0_dev7 c, k0_dev7_lt c⟩ : Dev nD) = nx c 0 := Fin.ext (k0_dev7_eq c)
theorem dev8_eq (c : Dev nD) : (⟨k0_dev8 c, k0_dev8_lt c⟩ : Dev nD) = nx c 1 := Fin.ext (k0_dev8_eq c)
theorem dev9_eq (c : Dev nD) : (⟨k0_dev9 c, k0_dev9_lt c⟩ : Dev nD) = nx c 2 := Fin.ext (k0_dev9_eq c)
theorem dev10_eq (c : Dev nD) : (⟨k0_dev10 c, k0_dev10_lt c⟩ : Dev nD) = nx c 0 := Fin.ext (k0_dev10_eq c)
theorem dev11_eq (c : Dev nD) : (⟨k0_dev11 c, k0_dev11_lt c⟩ : Dev nD) = nx c 1 := Fin.ext (k0_dev11_eq c)
theorem dev12_eq (c : Dev nD) : (⟨k0_dev12 c, k0_dev12_lt c⟩ : Dev nD) = nx c 2 := Fin.ext (k0_dev12_eq c)

/-! ## The landing slots -/

abbrev scr : Memref sig .tc .vmem S3x4x128x256 .bf16 := Memref.whole cc0_scratch0

theorem slot_inb (ℓ : Fin 3) (k : Fin 4) : ∀ a : Fin 4, (![ℓ.val, k.val, 0, 0] : Fin 4 → ℕ) a + S1x1x128x256.size a ≤ S3x4x128x256.size a := by
  revert ℓ k; decide

/-- Slot `k` of layer `ℓ` as the loads and stores name it, -/
abbrev slotR (ℓ : Fin 3) (k : Fin 4) : Rect S3x4x128x256 := Rect.unit (s := S3x4x128x256) ![ℓ.val, k.val, 0, 0] S1x1x128x256.size (slot_inb ℓ k)
/-- and as the copies do. -/
abbrev slotM (ℓ : Fin 3) (k : Fin 4) : Memref sig .tc .vmem S128x256 .bf16 :=
  (scr.slice (slotR ℓ k) (fun _ => rfl)).squeeze S128x256 squeezes_S1x1x128x256_S128x256

/-- The elements of slot `k` of layer `ℓ`. -/
abbrev slotS (ℓ : Fin 3) (k : Fin 4) : Finset S3x4x128x256.Idx := (slotR ℓ k).set

theorem slotM_set (ℓ : Fin 3) (k : Fin 4) : (slotM ℓ k).view.set = slotS ℓ k :=
  (View.set_reshape _ _).trans (View.set_slice_whole cc0_scratch0 (slotR ℓ k))

theorem access_set (ℓ : Fin 3) (k : Fin 4) : (scr.access (slotR ℓ k)).set = slotS ℓ k := View.set_slice_whole cc0_scratch0 (slotR ℓ k)

theorem slot_emb_fst (ℓ : Fin 3) (k : Fin 4) (x : S1x1x128x256.Idx) : ((slotR ℓ k).emb x 0).val = ℓ.val := by
  rw [Rect.emb_apply]
  have h : (x 0).val < 1 := (x 0).isLt
  show ℓ.val + 1 * (x 0).val = ℓ.val; omega
theorem slot_emb_snd (ℓ : Fin 3) (k : Fin 4) (x : S1x1x128x256.Idx) : ((slotR ℓ k).emb x 1).val = k.val := by
  rw [Rect.emb_apply]
  have h : (x 1).val < 1 := (x 1).isLt
  show k.val + 1 * (x 1).val = k.val; omega

theorem mem_slotS {ℓ : Fin 3} {k : Fin 4} {i : S3x4x128x256.Idx} : i ∈ slotS ℓ k → (i 0).val = ℓ.val ∧ (i 1).val = k.val := by
  intro h
  rw [slotS, ← Rect.map_emb_univ] at h
  obtain ⟨x, -, rfl⟩ := Finset.mem_map.mp h
  exact ⟨slot_emb_fst ℓ k x, slot_emb_snd ℓ k x⟩

/-- The index of an element within its slot. -/
def within (i : S3x4x128x256.Idx) : S1x1x128x256.Idx := fun a => match a with
  | ⟨0, _⟩ => (0 : Fin 1)
  | ⟨1, _⟩ => (0 : Fin 1)
  | ⟨2, _⟩ => (i 2 : Fin 128)
  | ⟨3, _⟩ => (i 3 : Fin 256)

theorem within_emb (ℓ : Fin 3) (k : Fin 4) (x : S1x1x128x256.Idx) : within ((slotR ℓ k).emb x) = x := by
  funext a
  refine Fin.ext ?_
  match a with
  | ⟨0, _⟩ => have h : (x 0).val < 1 := (x 0).isLt; show 0 = (x 0).val; omega
  | ⟨1, _⟩ => have h : (x 1).val < 1 := (x 1).isLt; show 0 = (x 1).val; omega
  | ⟨2, _⟩ => show ((slotR ℓ k).emb x 2).val = (x 2).val; rw [Rect.emb_apply]; show 0 + 1 * (x 2).val = (x 2).val; omega
  | ⟨3, _⟩ => show ((slotR ℓ k).emb x 3).val = (x 3).val; rw [Rect.emb_apply]; show 0 + 1 * (x 3).val = (x 3).val; omega

theorem emb_within {ℓ : Fin 3} {k : Fin 4} {i : S3x4x128x256.Idx} (h0 : (i 0).val = ℓ.val) (h1 : (i 1).val = k.val) :
    (slotR ℓ k).emb (within i) = i := by
  funext a
  refine Fin.ext ?_
  rw [Rect.emb_apply]
  match a with
  | ⟨0, _⟩ => show ℓ.val + 1 * 0 = (i 0).val; omega
  | ⟨1, _⟩ => show k.val + 1 * 0 = (i 1).val; omega
  | ⟨2, _⟩ => show 0 + 1 * (i 2).val = (i 2).val; omega
  | ⟨3, _⟩ => show 0 + 1 * (i 3).val = (i 3).val; omega

theorem slots_disjoint {p p' : Fin 3 × Fin 4} (h : p ≠ p') : Disjoint (slotS p.1 p.2) (slotS p'.1 p'.2) :=
  Finset.disjoint_left.mpr fun i hi hi' => h (by
    obtain ⟨a, b⟩ := mem_slotS hi
    obtain ⟨a', b'⟩ := mem_slotS hi'
    exact Prod.ext (Fin.ext (a.symm.trans a')) (Fin.ext (b.symm.trans b')))

theorem slots_cover : (Finset.univ : Finset (Fin 3 × Fin 4)).biUnion (fun p => slotS p.1 p.2) = Finset.univ := by
  refine Finset.eq_univ_iff_forall.mpr fun i => Finset.mem_biUnion.mpr ⟨(⟨(i 0).val, (i 0).isLt⟩, ⟨(i 1).val, (i 1).isLt⟩), Finset.mem_univ _, ?_⟩
  rw [slotS, ← Rect.map_emb_univ]
  exact Finset.mem_map.mpr ⟨within i, Finset.mem_univ _, emb_within rfl rfl⟩

/-- The landing buffer holding the block `v` in every slot: each slot is read off it at will. -/
def spread (v : FVec F S1x1x128x256 .bf16) : (cc0_scratch0 : Ref sig .tc).ty.Contents (Elt F) := fun i => v (within i)

omit [FloatOps F] in
theorem readAt_spread (ℓ : Fin 3) (k : Fin 4) (v : FVec F S1x1x128x256 .bf16) :
    (scr : Memref sig .tc .vmem S3x4x128x256 .bf16).view.readAt (Elt F) (slotR ℓ k).toLoadRect (spread v) = v :=
  funext fun x => congrArg v (within_emb ℓ k x)

omit [FloatOps F] in
/-- A slot stored into holds what was stored. -/
theorem write_spread (ℓ : Fin 3) (k : Fin 4) (f : (cc0_scratch0 : Ref sig .tc).ty.Contents (Elt F)) (v : FVec F S1x1x128x256 .bf16) :
    ∀ i ∈ slotS ℓ k, (scr.access (slotR ℓ k)).write (Elt F) f v Finset.univ i = spread v i := by
  intro i hi
  rw [← access_set] at hi
  obtain ⟨x, -, rfl⟩ := Finset.mem_map.mp hi
  rw [View.write_emb_of_mem _ _ (Finset.mem_univ _)]
  exact (congrArg v (within_emb ℓ k x)).symm

omit [FloatOps F] in
/-- A slot a copy lands in holds what the slot copied from did. -/
theorem land_spread (ℓ ℓ' : Fin 3) (k k' : Fin 4) (f : (cc0_scratch0 : Ref sig .tc).ty.Contents (Elt F)) (v : FVec F S1x1x128x256 .bf16) :
    ∀ i ∈ (slotM ℓ k).view.set, (slotM ℓ k).view.write (Elt F) f ((slotM ℓ' k').view.read (Elt F) (spread v)) Finset.univ i = spread v i := by
  intro i hi
  obtain ⟨x, -, rfl⟩ := Finset.mem_map.mp hi
  rw [View.write_emb_of_mem _ _ (Finset.mem_univ _)]
  exact congrArg v ((within_emb ℓ' k' _).trans (within_emb ℓ k _).symm)

/-- The elements of slot `k` of layer `ℓ` on device `c`, at share `q`. -/
def slotPts (c : Dev nD) (ℓ : Fin 3) (k : Fin 4) (q : PosShare TreeShare) (f : (cc0_scratch0 : Ref sig .tc).ty.Contents (Elt F)) : sProp 𝕄 :=
  (c : Thread nD τ).loc cc0_scratch0 ↦[slotS ℓ k]{q} f

omit [FloatOps F] in
instance slotPts_storable (c : Dev nD) (ℓ k q f) : BI.Storable (upEmb : UEmb _ 𝕄) (slotPts (F := F) c ℓ k q f) := by unfold slotPts; infer_instance

omit [FloatOps F] in
theorem slotPts_view (c : Dev nD) (ℓ k q) (f : (cc0_scratch0 : Ref sig .tc).ty.Contents (Elt F)) :
    slotPts c ℓ k q f = ((slotM ℓ k).view.loc (c : Thread nD τ) ↦[(slotM ℓ k).view.set]{q} f : sProp 𝕄) := by
  rw [slotM_set]; rfl

omit [FloatOps F] in
theorem slotPts_congr (c : Dev nD) (ℓ k q) {f g : (cc0_scratch0 : Ref sig .tc).ty.Contents (Elt F)} (h : ∀ i ∈ slotS ℓ k, f i = g i) :
    (slotPts c ℓ k q f : sProp 𝕄) = slotPts c ℓ k q g := pointsTo_congr h

omit [FloatOps F] in
/-- The landing buffer is its twelve slots; -/
theorem slots_split (c : Dev nD) (f : (cc0_scratch0 : Ref sig .tc).ty.Contents (Elt F)) :
    (((c : Thread nD τ).loc cc0_scratch0) ↦{fullShare} f : sProp 𝕄) = bigSep Finset.univ fun p : Fin 3 × Fin 4 => slotPts c p.1 p.2 fullShare f := by
  have h := pointsTo_biUnion (Ix := Unit) (Name := ℕ) (U := UU) (Lvl := ℕ) (ℓ := (c : Thread nD τ).loc cc0_scratch0) (q := fullShare) (f := f)
    (Finset.univ : Finset (Fin 3 × Fin 4)) (fun p => slotS p.1 p.2) (fun p _ p' _ hp => slots_disjoint hp)
  rw [slots_cover] at h
  exact h

omit [FloatOps F] in
/-- and from the twelve slots, at whatever contents each, it is whole again. -/
theorem slots_join (c : Dev nD) (fs : Fin 3 × Fin 4 → (cc0_scratch0 : Ref sig .tc).ty.Contents (Elt F)) :
    (bigSep Finset.univ fun p : Fin 3 × Fin 4 => slotPts c p.1 p.2 fullShare (fs p))
      ⊢ iprop(∃ g : Buf (Elt F) ((c : Thread nD τ).loc cc0_scratch0), (((c : Thread nD τ).loc cc0_scratch0) ↦{fullShare} g : sProp 𝕄)) := by
  have h := pointsTo_biUnion_join (Ix := Unit) (Name := ℕ) (U := UU) (Lvl := ℕ) (ℓ := (c : Thread nD τ).loc cc0_scratch0) (q := fullShare)
    (Finset.univ : Finset (Fin 3 × Fin 4)) (fun p => slotS p.1 p.2) fs (fs (0, 0)) (fun p _ p' _ hp => slots_disjoint hp)
  rw [slots_cover] at h
  refine (show _ ⊢ _ from h).trans ?_
  iintro ⟨%g, -, H⟩
  iexists g
  iexact H

omit [FloatOps F] in
theorem bigSep_three (Φ : Fin 3 → sProp 𝕄) : bigSep Finset.univ Φ = iprop(Φ 0 ∗ Φ 1 ∗ Φ 2) := bigSep_univ_eq_bigSepL [0, 1, 2] (by decide) (by decide) Φ

/-- The share of slot `(ℓ, 0)` a device keeps, to read it, and the ones it lends to its three copies of it. -/
abbrev kept : PosShare TreeShare := Transfers.shareDrop fullShare 3
abbrev lent (j : Fin 3) : PosShare TreeShare := Transfers.shareTok fullShare 3 j

omit [FloatOps F] in
theorem slot_lend (c : Dev nD) (ℓ k) (f : (cc0_scratch0 : Ref sig .tc).ty.Contents (Elt F)) :
    (slotPts c ℓ k fullShare f : sProp 𝕄) = iprop(slotPts c ℓ k kept f ∗ slotPts c ℓ k (lent 0) f ∗ slotPts c ℓ k (lent 1) f ∗ slotPts c ℓ k (lent 2) f) := by
  have h := Transfers.pointsTo_toks (Ix := Unit) (Name := ℕ) (U := UU) (Lvl := ℕ) (ℓ := (c : Thread nD τ).loc cc0_scratch0) (S := slotS ℓ k) (f := f) fullShare 3
  have h' := BI.Entails.antisymm h.1 h.2
  rw [bigSep_univ_eq_bigSepL [(0 : Fin 3), 1, 2] (by decide) (by decide)] at h'
  exact h'

/-! ## The cells -/

/-- The runtime's barrier semaphore. -/
abbrev barS : Sem sig := (SemArray.scalar (sig.barrier 0 rfl) : Sems sig S_).sem

theorem sem_inb (ℓ j : Fin 3) : ∀ a : Fin 2, (![ℓ.val, j.val] : Fin 2 → ℕ) a + S1x1.size a ≤ S3x3.size a := by revert ℓ j; decide

/-- The send and receive semaphores of the transfer of layer `ℓ` to `j + 1` places further round. -/
abbrev sndS (ℓ j : Fin 3) : DmaSem sig := (((cc0_scratch1 : DmaSems sig S3x3).slice (Rect.unit (s := S3x3) ![ℓ.val, j.val] S1x1.size (sem_inb ℓ j))).squeeze S_ squeezes_S1x1_S_).sem
abbrev rcvS (ℓ j : Fin 3) : DmaSem sig := (((cc0_scratch2 : DmaSems sig S3x3).slice (Rect.unit (s := S3x3) ![ℓ.val, j.val] S1x1.size (sem_inb ℓ j))).squeeze S_ squeezes_S1x1_S_).sem

/-- The exchange's semaphores: the barrier's, a send's, a receive's. -/
abbrev Cell : Type := Unit ⊕ ((Fin 3 × Fin 3) ⊕ (Fin 3 × Fin 3))

/-- Their places in the pool of DMA semaphores: the sends after the eight staging semaphores, the receives after them. -/
def csem : Cell → SemLoc sig
  | .inl _ => .reg barS
  | .inr (.inl x) => .dma ⟨8 + (3 * x.1.val + x.2.val), by have := x.1.isLt; have := x.2.isLt; show _ < 26; omega⟩
  | .inr (.inr x) => .dma ⟨17 + (3 * x.1.val + x.2.val), by have := x.1.isLt; have := x.2.isLt; show _ < 26; omega⟩

theorem csem_injective : Function.Injective csem := by decide

theorem sndS_eq (ℓ j : Fin 3) : SemLoc.dma (sndS ℓ j) = csem (.inr (.inl (ℓ, j))) := by revert ℓ j; decide
theorem rcvS_eq (ℓ j : Fin 3) : SemLoc.dma (rcvS ℓ j) = csem (.inr (.inr (ℓ, j))) := by revert ℓ j; decide

end Cert.KernelIdeal.Mlp

end
-- ==== Proof.SchedKernelIdeal.lean ====
/-
# The schedule, the levels, and one rule per kind of step

The exchange's cells as a `Rounds.Schedule` with the contents each transfer hands over, what a device owes, the levels
its waits are ordered by, and the five steps the kernel takes — signal, barrier wait, copy, receive wait, send wait —
each stated once for every layer and every distance.
-/
module

public import proofs.«01_k».proof.Proof.ProtoKernelIdeal

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

abbrev t₁ : Fin 1 := 0

/-- A device's blocks of the inputs, as the pipeline stages them. -/
def in0 (c : Dev nD) : (cc0_stg0_0 : Ref sig .tc).ty.Contents (Elt F) := (win0_0.blk t₁).view.read (Elt F) ((s₀ m ρ).mem ((c : Thread nD τ).loc main_arg0))
def in1 (c : Dev nD) : (cc0_stg1_0 : Ref sig .tc).ty.Contents (Elt F) := (win0_1.blk t₁).view.read (Elt F) ((s₀ m ρ).mem ((c : Thread nD τ).loc main_arg1))
def in2 (c : Dev nD) : (cc0_stg2_0 : Ref sig .tc).ty.Contents (Elt F) := (win0_2.blk t₁).view.read (Elt F) ((s₀ m ρ).mem ((c : Thread nD τ).loc main_arg4))
def in3 (c : Dev nD) : (cc0_stg3_0 : Ref sig .tc).ty.Contents (Elt F) := (win0_3.blk t₁).view.read (Elt F) ((s₀ m ρ).mem ((c : Thread nD τ).loc main_arg2))
def in4 (c : Dev nD) : (cc0_stg4_0 : Ref sig .tc).ty.Contents (Elt F) := (win0_4.blk t₁).view.read (Elt F) ((s₀ m ρ).mem ((c : Thread nD τ).loc main_arg5))
def in5 (c : Dev nD) : (cc0_stg5_0 : Ref sig .tc).ty.Contents (Elt F) := (win0_5.blk t₁).view.read (Elt F) ((s₀ m ρ).mem ((c : Thread nD τ).loc main_arg3))
def in6 (c : Dev nD) : (cc0_stg6_0 : Ref sig .tc).ty.Contents (Elt F) := (win0_6.blk t₁).view.read (Elt F) ((s₀ m ρ).mem ((c : Thread nD τ).loc main_arg6))

/-- Device `c`'s partial product of each layer: of its own block of the input, then of the sum of everybody's last ones. -/
def part0 (c : Dev nD) : FVec F S1x1x128x256 .bf16 := k0_pay1 (in0 m ρ c) (in1 m ρ c)
def part1 (c : Dev nD) : FVec F S1x1x128x256 .bf16 :=
  k0_pay5 (k0_pay2 (in2 m ρ c) (in3 m ρ c)) (part0 m ρ c) (part0 m ρ (fr c 0)) (part0 m ρ (fr c 1)) (part0 m ρ (fr c 2))
def part2 (c : Dev nD) : FVec F S1x1x128x256 .bf16 :=
  k0_pay7 (k0_pay6 (k0_pay3 (in4 m ρ c) (in5 m ρ c)) (part1 m ρ c) (part1 m ρ (fr c 0)) (part1 m ρ (fr c 1)) (part1 m ρ (fr c 2)))

def part (ℓ : Fin 3) (c : Dev nD) : FVec F S1x1x128x256 .bf16 := match ℓ with
  | 0 => part0 m ρ c | 1 => part1 m ρ c | 2 => part2 m ρ c

/-- The kernel's result on device `c`. -/
def outAt (c : Dev nD) : (cc0_stg7_0 : Ref sig .tc).ty.Contents (Elt F) :=
  k0_pay9 (k0_pay4 (in6 m ρ c)) (k0_pay8 (part2 m ρ c) (part2 m ρ (fr c 0))) (part2 m ρ (fr c 1)) (part2 m ρ (fr c 2))

/-! ## The schedule -/

abbrev cell (c : Dev nD) (x : Cell) : GSem nD τ sig := ((c : Thread nD τ), csem x)
abbrev bar : Cell := .inl ()
abbrev snd (x : Fin 3 × Fin 3) : Cell := .inr (.inl x)
abbrev rcv (x : Fin 3 × Fin 3) : Cell := .inr (.inr x)

open Classical in
/-- Which of the exchange's cells a semaphore is. -/
def decode (sm : SemLoc sig) : Option Cell := if h : ∃ x, csem x = sm then some h.choose else none

theorem decode_csem (x : Cell) : decode (csem x) = some x := by
  unfold decode
  rw [dif_pos ⟨x, rfl⟩]
  exact congrArg some (csem_injective (Exists.choose_spec (⟨x, rfl⟩ : ∃ y, csem y = csem x)))

theorem csem_of_decode {sm : SemLoc sig} {x : Cell} (h : decode sm = some x) : csem x = sm := by
  unfold decode at h
  split at h
  · rename_i h'; cases h; exact h'.choose_spec
  · cases h

/-- What one copy of a slot credits. -/
def N : ℕ := (slotM 0 0).view.dmaCredit
theorem N_pos : 0 < N := View.dmaCredit_pos _ (by decide)
theorem slot_credit (ℓ : Fin 3) (k : Fin 4) : (slotM ℓ k).view.dmaCredit = N := rfl

/-- What the device `j + 1` places further round hands `c` at the barrier: its slots `j + 1`. -/
def barPay (c : Dev nD) (j : Fin 3) : sProp 𝕄 := bigSep Finset.univ fun ℓ : Fin 3 => iprop(∃ f, slotPts (nx c j) ℓ j.succ fullShare f)
/-- What a copy's end hands its sender: the share of the slot it lent. -/
def sndPay (c : Dev nD) (x : Fin 3 × Fin 3) : sProp 𝕄 := slotPts c x.1 0 (lent x.2) (spread (part m ρ x.1 c))
/-- What a landing hands its receiver: the slot, holding the sender's partial product. -/
def rcvPay (c : Dev nD) (x : Fin 3 × Fin 3) : sProp 𝕄 := slotPts c x.1 x.2.succ fullShare (spread (part m ρ x.1 (fr c x.2)))

/-- One round to every cell: a barrier has three duties of one unit, a send or receive cell one of a copy's credit. -/
def ringRd : Rounds.Schedule (GSem nD τ sig) (Fin 3) 𝕄 where
  duties g r := if r = 0 ∧ g.1.2 = .tc then (match decode g.2 with | some (.inl _) => Finset.univ | some (.inr _) => {0} | none => ∅) else ∅
  unitless _ := False
  amount g _ _ := match decode g.2 with | some (.inl _) => 1 | _ => N
  payload g _ d := match decode g.2 with
    | some (.inl _) => barPay g.1.1 d
    | some (.inr (.inl x)) => sndPay m ρ g.1.1 x
    | some (.inr (.inr x)) => rcvPay m ρ g.1.1 x
    | none => iprop(emp)
  amount_pos g _ _ _ := by
    split
    · exact Nat.one_pos
    · exact N_pos

instance ringRd_payload_storable (g : GSem nD τ sig) (r : ℕ) (d : Fin 3) :
    BI.Storable (upEmb : UEmb _ 𝕄) ((ringRd (F := F) m ρ).payload g r d) := by
  show BI.Storable upEmb (match decode g.2 with
    | some (.inl _) => barPay g.1.1 d | some (.inr (.inl x)) => sndPay m ρ g.1.1 x | some (.inr (.inr x)) => rcvPay m ρ g.1.1 x | none => iprop(emp))
  unfold barPay sndPay rcvPay
  split <;> infer_instance

section Sched
variable (c : Dev nD) (x : Fin 3 × Fin 3)

theorem duties_bar : (ringRd (F := F) m ρ).duties (cell c bar) 0 = Finset.univ := by
  dsimp only [ringRd]; rw [if_pos ⟨rfl, rfl⟩, decode_csem]
theorem duties_snd : (ringRd (F := F) m ρ).duties (cell c (snd x)) 0 = {0} := by
  dsimp only [ringRd]; rw [if_pos ⟨rfl, rfl⟩, decode_csem]
theorem duties_rcv : (ringRd (F := F) m ρ).duties (cell c (rcv x)) 0 = {0} := by
  dsimp only [ringRd]; rw [if_pos ⟨rfl, rfl⟩, decode_csem]
theorem duties_later (g : GSem nD τ sig) : ∀ r, 1 ≤ r → (ringRd (F := F) m ρ).duties g r = ∅ :=
  fun r hr => by dsimp only [ringRd]; rw [if_neg fun h => by omega]

theorem amount_bar (d : Fin 3) : (ringRd (F := F) m ρ).amount (cell c bar) 0 d = 1 := by dsimp only [ringRd]; rw [decode_csem]
theorem amount_snd (d : Fin 3) : (ringRd (F := F) m ρ).amount (cell c (snd x)) 0 d = N := by dsimp only [ringRd]; rw [decode_csem]
theorem amount_rcv (d : Fin 3) : (ringRd (F := F) m ρ).amount (cell c (rcv x)) 0 d = N := by dsimp only [ringRd]; rw [decode_csem]

theorem expect_bar : (ringRd (F := F) m ρ).expect (cell c bar) 0 = 3 := by
  unfold Schedule.expect Schedule.amountOf
  rw [duties_bar, Finset.sum_congr rfl fun d _ => amount_bar m ρ c d, Finset.sum_const, Finset.card_univ, Fintype.card_fin, smul_eq_mul]
theorem expect_snd : (ringRd (F := F) m ρ).expect (cell c (snd x)) 0 = N := by
  unfold Schedule.expect Schedule.amountOf; rw [duties_snd, Finset.sum_singleton, amount_snd]
theorem expect_rcv : (ringRd (F := F) m ρ).expect (cell c (rcv x)) 0 = N := by
  unfold Schedule.expect Schedule.amountOf; rw [duties_rcv, Finset.sum_singleton, amount_rcv]

theorem payload_bar (d : Fin 3) : (ringRd (F := F) m ρ).payload (cell c bar) 0 d = barPay c d := by dsimp only [ringRd]; rw [decode_csem]
theorem payload_snd (d : Fin 3) : (ringRd (F := F) m ρ).payload (cell c (snd x)) 0 d = sndPay m ρ c x := by dsimp only [ringRd]; rw [decode_csem]
theorem payload_rcv (d : Fin 3) : (ringRd (F := F) m ρ).payload (cell c (rcv x)) 0 d = rcvPay m ρ c x := by dsimp only [ringRd]; rw [decode_csem]

theorem rest_bar : bigSep ((ringRd (F := F) m ρ).duties (cell c bar) 0 \ ∅) (fun d => (ringRd (F := F) m ρ).payload (cell c bar) 0 d) = bigSep Finset.univ fun j : Fin 3 => barPay c j := by
  rw [Finset.sdiff_empty, duties_bar]; exact bigSep_congr fun d _ => payload_bar m ρ c d
theorem rest_snd : bigSep ((ringRd (F := F) m ρ).duties (cell c (snd x)) 0 \ ∅) (fun d => (ringRd (F := F) m ρ).payload (cell c (snd x)) 0 d) = sndPay m ρ c x := by
  rw [Finset.sdiff_empty, duties_snd, bigSep_singleton, payload_snd]
theorem rest_rcv : bigSep ((ringRd (F := F) m ρ).duties (cell c (rcv x)) 0 \ ∅) (fun d => (ringRd (F := F) m ρ).payload (cell c (rcv x)) 0 d) = rcvPay m ρ c x := by
  rw [Finset.sdiff_empty, duties_rcv, bigSep_singleton, payload_rcv]

end Sched

/-! ## What a device owes; the levels -/

/-- Owing the landings of the copies `xs`. -/
def owe (c : Dev nD) : List (Fin 3 × Fin 3) → CellTallies nD τ sig Unit
  | [] => 0
  | x :: xs => owe c xs + tallyAt (cell (nx c x.2) (rcv x)) () N

/-- The copies in program order. -/
abbrev xfers2 : List (Fin 3 × Fin 3) := [(2, 0), (2, 1), (2, 2)]
abbrev xfers1 : List (Fin 3 × Fin 3) := (1, 0) :: (1, 1) :: (1, 2) :: xfers2
abbrev xfers0 : List (Fin 3 × Fin 3) := (0, 0) :: (0, 1) :: (0, 2) :: xfers1

/-- At launch: every landing, and a unit to each of the other three's barriers; the signals peel from the right. -/
def O₀ (c : Dev nD) : CellTallies nD τ sig Unit :=
  owe c xfers0 + tallyAt (cell (nx c 2) bar) () 1 + tallyAt (cell (nx c 1) bar) () 1 + tallyAt (cell (nx c 0) bar) () 1

def L (g : GSem nD τ sig) : Finset Unit := if g.1.2 = .tc then {()} else ∅
/-- A barrier at `1`, a receive cell of layer `ℓ` at `2 + ℓ`, everything else at `0`. -/
def lv (g : GSem nD τ sig) (_ : Unit) : ℕ := match decode g.2 with | some (.inl _) => 1 | some (.inr (.inr x)) => 2 + x.1.val | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (cell c bar) () = 1 := by dsimp only [lv]; rw [decode_csem]
theorem lv_snd (c : Dev nD) (x) : lv (cell c (snd x)) () = 0 := by dsimp only [lv]; rw [decode_csem]
theorem lv_rcv (c : Dev nD) (x) : lv (cell c (rcv x)) () = 2 + x.1.val := by dsimp only [lv]; rw [decode_csem]

theorem tallyAt_pos {g g' : GSem nD τ sig} {n : ℕ} {u : Unit} (h : 0 < (tallyAt g () n : CellTallies nD τ sig Unit) g' u) : g' = g := by
  rw [tallyAt_apply] at h
  by_contra hn
  rw [if_neg fun h' => hn h'.1] at h
  exact Nat.lt_irrefl 0 h

theorem owe_pos {c : Dev nD} {xs : List (Fin 3 × Fin 3)} {g : GSem nD τ sig} {u : Unit} (h : 0 < owe c xs g u) :
    ∃ x ∈ xs, g = cell (nx c x.2) (rcv x) := by
  induction xs with
  | nil => exact absurd h (Nat.lt_irrefl 0)
  | cons x xs ih =>
    unfold owe at h
    rw [Pi.add_apply, Finsupp.add_apply] at h
    rcases Nat.add_pos_iff_pos_or_pos.mp h with h | h
    · obtain ⟨y, hy, e⟩ := ih h
      exact ⟨y, List.mem_cons_of_mem _ hy, e⟩
    · exact ⟨x, List.mem_cons_self, tallyAt_pos h⟩

theorem O₀_pos {c : Dev nD} {g : GSem nD τ sig} {u : Unit} (h : 0 < O₀ c g u) :
    (∃ x, g = cell (nx c x.2) (rcv x)) ∨ ∃ j, g = cell (nx c j) bar := by
  unfold O₀ at h
  rw [Pi.add_apply, Finsupp.add_apply, Pi.add_apply, Finsupp.add_apply, Pi.add_apply, Finsupp.add_apply] at h
  rcases Nat.add_pos_iff_pos_or_pos.mp h with h | h
  · rcases Nat.add_pos_iff_pos_or_pos.mp h with h | h
    · rcases Nat.add_pos_iff_pos_or_pos.mp h with h | h
      · obtain ⟨x, -, e⟩ := owe_pos h; exact .inl ⟨x, e⟩
      · exact .inr ⟨2, tallyAt_pos h⟩
    · exact .inr ⟨1, tallyAt_pos h⟩
  · exact .inr ⟨0, tallyAt_pos h⟩

omit [FloatOps F] in
/-- A wait on a cell below every landing still owed. -/
theorem mayWait_owe (c : Dev nD) (sm : SemLoc sig) (xs : List (Fin 3 × Fin 3)) (n : ℕ) (hn : lv ((c : Thread nD τ), sm) () ≤ n)
    (hx : ∀ x ∈ xs, n < 2 + x.1.val) : (levAts L lv : sProp 𝕄) ⊢ MayWait (c : Thread nD τ) sm () (owe c xs) :=
  MayOwe.of_cut (L := L) (lev := lv) n (fun p hp => by rw [Finset.mem_singleton.mp hp, L_tc]; exact Finset.mem_singleton_self _)
    (fun g u hg => by obtain ⟨x, -, rfl⟩ := owe_pos hg; exact Finset.mem_singleton_self _)
    (fun p hp => by rw [Finset.mem_singleton.mp hp]; exact hn)
    (fun g u hg => by obtain ⟨x, hm, rfl⟩ := owe_pos hg; rw [lv_rcv]; exact hx x hm)

omit [FloatOps F] in
/-- A wait at level `0` while owing everything, or nothing. -/
theorem mayWait_stage (c : Dev nD) (sm : SemLoc sig) (hs : lv ((c : Thread nD τ), sm) () = 0) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨x, rfl⟩ | ⟨j, rfl⟩ <;> exact Finset.mem_singleton_self _)
      (fun p hp => by rw [Finset.mem_singleton.mp hp]; exact hs.le)
      (fun g u hg => by
        rcases O₀_pos hg with ⟨x, rfl⟩ | ⟨j, rfl⟩
        · rw [lv_rcv]; omega
        · rw [lv_bar]; exact Nat.one_pos)
  · rw [MayWait_zero]; iintro -; iempintro

/-! ## The records: every cell's invariant, and that every cell has reached its round -/

def records (K : Dev nD × Cell → ℕ) : sProp 𝕄 :=
  iprop((bigSep Finset.univ fun ck : Dev nD × Cell => cellInv ER (ringRd m ρ) (K ck) (cell ck.1 ck.2))
    ∗ bigSep Finset.univ fun ck : Dev nD × Cell => reached ER (cell ck.1 ck.2) 0)

instance records_persistent (K : Dev nD × Cell → ℕ) : BI.Persistent (records m ρ K) := by unfold records; infer_instance

theorem records_inv (K : Dev nD × Cell → ℕ) (c : Dev nD) (x : Cell) : records m ρ K ⊢ cellInv ER (ringRd m ρ) (K (c, x)) (cell c x) := by
  unfold records
  refine sep_elim_left.trans ?_
  exact bigSep_elim (Φ := fun ck : Dev nD × Cell => cellInv ER (ringRd m ρ) (K ck) (cell ck.1 ck.2)) (Finset.mem_univ (c, x))
theorem records_reached (K : Dev nD × Cell → ℕ) (c : Dev nD) (x : Cell) : records m ρ K ⊢ reached ER (cell c x) 0 := by
  unfold records
  refine sep_elim_right.trans ?_
  exact bigSep_elim (Φ := fun ck : Dev nD × Cell => (reached ER (cell ck.1 ck.2) 0 : sProp 𝕄)) (Finset.mem_univ (c, x))

end Cert.KernelIdeal.Mlp

end
-- ==== Proof.StepsKernelIdeal.lean ====
/-
# The steps of the exchange

One rule per kind of step: a signal, the barrier wait, a copy, a receive wait, a send wait, a load of a slot and a store
into one; each for every layer and every distance.
-/
module

public import proofs.«01_k».proof.Proof.SchedKernelIdeal

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- What device `c` holds of one of its copies before it is sent: the duties of both its ends, and its place at the send cell; -/
def unsent (c : Dev nD) (x : Fin 3 × Fin 3) : sProp 𝕄 :=
  iprop(dutyTok ER (cell c (snd x)) 0 0 ∗ dutyTok ER (cell (nx c x.2) (rcv x)) 0 0 ∗ atPos ER (cell c (snd x)) 0 ∅ 0)
/-- after it is sent: the credit to wait for it with; -/
def sent (c : Dev nD) (x : Fin 3 × Fin 3) : sProp 𝕄 :=
  iprop(atPos ER (cell c (snd x)) 0 ∅ 0 ∗ cred (tallyAt (cell c (snd x)) () N))
/-- and of the copy coming from the same distance the other way. -/
def coming (c : Dev nD) (x : Fin 3 × Fin 3) : sProp 𝕄 :=
  iprop(atPos ER (cell c (rcv x)) 0 ∅ 0 ∗ cred (tallyAt (cell c (rcv x)) () N))

/-- Owing `O`, whatever has been waited for. -/
def owing (c : Dev nD) (O : CellTallies nD τ sig Unit) : sProp 𝕄 := iprop(∃ W, owes (c : Thread nD τ) O W)

/-- Some contents of a slot. -/
def anySlot (c : Dev nD) (ℓ : Fin 3) (k : Fin 4) : sProp 𝕄 := iprop(∃ f, slotPts (F := F) c ℓ k fullShare f)

variable (K : Dev nD × Cell → ℕ) {α : Type}

theorem step_signal {Q : α → sProp 𝕄} (c n : Dev nD) (j : Fin 3) (hn : n = nx c j) (O : CellTallies nD τ sig Unit) {k' : ℕ} (hk' : 1 = k')
    {k : PUnit → Prog (TpuEff nD τ sig (Elt F) Λ₀ .tc) α} :
    records m ρ K ⊢ iprop(owing c (O + tallyAt (cell (nx c j) bar) () 1) -∗ dutyTok ER (cell (nx c j) bar) 0 j.rev
      -∗ (anySlot c 0 j.rev.succ ∗ anySlot c 1 j.rev.succ ∗ anySlot c 2 j.rev.succ)
      -∗ (owing c O -∗ wp frame (wpE (defs₀ (F := F)) 𝒱₀ (c : Thread nD τ) none) Set.univ (k ⟨⟩) Q)
      -∗ wp frame (wpE (defs₀ (F := F)) 𝒱₀ (c : Thread nD τ) none) Set.univ (.op (.semSignal (n : Thread nD τ) barS k') k) Q) := by
  subst hn hk'
  unfold owing anySlot
  iintro #HR ⟨%W, HO⟩ Ht Hs Hk
  iapply (Rounds.wp_signal 𝒱₀ ER (ringRd m ρ) (c : Thread nD τ) none (dst := (nx c j : Thread nD τ)) (κ := K (nx c j, bar))
      (d := j.rev) (by rw [show ((nx c j : Thread nD τ), SemLoc.reg barS) = cell (nx c j) bar from rfl, duties_bar]; exact Finset.mem_univ _)
      (amount_bar m ρ (nx c j) j.rev) () O rfl) $$ [HO Ht Hs]
  · isplitr; · iapply (records_inv m ρ K (nx c j) bar); iexact HR
    isplitl [HO]; · iexact HO
    isplitl [Ht]; · iexact Ht
    isplitl [Hs]
    · rw [show (ringRd m ρ).payload ((nx c j : Thread nD τ), SemLoc.reg barS) 0 j.rev = barPay (nx c j) j.rev from payload_bar m ρ (nx c j) j.rev]
      unfold barPay
      rw [show nx (nx c j) j.rev = c from fr_nx c j, bigSep_three]
      iexact Hs
    · iapply (records_reached m ρ K (nx c j) bar); iexact HR
  iintro HO
  iapply Hk
  iexists W; iexact HO

theorem step_barrier {Q : α → sProp 𝕄} (c : Dev nD) {k' : ℕ} (hk' : 3 = k') (xs : List (Fin 3 × Fin 3)) {k : PUnit → Prog (TpuEff nD τ sig (Elt F) Λ₀ .tc) α} :
    records m ρ K ⊢ iprop(levAts L lv -∗ owing c (owe c xs) -∗ cred (tallyAt (cell c bar) () 3) -∗ atPos ER (cell c bar) 0 ∅ 0
      -∗ ((owing c (owe c xs) ∗ semVal (cell c bar) 0 ∗ (barPay c 0 ∗ barPay c 1 ∗ barPay c 2))
          -∗ wp frame (wpE (defs₀ (F := F)) 𝒱₀ (c : Thread nD τ) none) Set.univ (k ⟨⟩) Q)
      -∗ wp frame (wpE (defs₀ (F := F)) 𝒱₀ (c : Thread nD τ) none) Set.univ (.op (.semWait barS k') k) Q) := by
  subst hk'
  unfold owing
  iintro #HR #Hlev ⟨%W, HO⟩ Hc Hat Hk
  iapply (Rounds.wp_wait_rest_token 𝒱₀ ER (ringRd m ρ) (c : Thread nD τ) none (κ := K (c, bar)) (sm := csem bar)
      (wpE_semWait_eq 𝒱₀ (c : Thread nD τ) none Set.univ) (Set.mem_univ _) () (O := owe c xs) (W := W) (R := 0) (m := 0) (T := ∅)
      (by rw [Nat.zero_add, expect_bar])) $$ [Hc HO Hat]
  · isplitr; · iapply (records_inv m ρ K c bar); iexact HR
    isplitl [Hc]; · iexact Hc
    isplitl [HO]; · iexact HO
    isplitr; · iapply (mayWait_owe c (csem bar) xs 1 (lv_bar c).le fun x _ => by omega); iexact Hlev
    iexact Hat
  iintro ⟨HO, Hat, -, Hpay⟩
  imod (Rounds.cell_close ER (ringRd m ρ) (Set.mem_univ (K (c, bar))) (fun h => h) (R := 0 + 1) (duties_later m ρ (cell c bar))) $$ [Hat] with Hz
  · isplitr; · iapply (records_inv m ρ K c bar); iexact HR
    iexact Hat
  ihave Hp := (Entails.of_eq ((rest_bar m ρ c).trans (bigSep_three _))) $$ Hpay
  iapply Hk
  isplitl [HO]; · iexists _; iexact HO
  isplitl [Hz]; · iexact Hz
  iexact Hp

/-- `Rounds.wp_send_pointsTo` at the exchange's cells, the two slots as any memrefs. -/
theorem send_slot {Q : α → sProp 𝕄} (c : Dev nD) (x : Fin 3 × Fin 3) (O : CellTallies nD τ sig Unit) {src dst : Memref sig .tc .vmem S128x256 .bf16}
    {sS rS : SemLoc sig} (hs : sS = csem (snd x)) (hr : rS = csem (rcv x)) (hN : dst.view.amount rS = N) (fs : Buf (Elt F) (src.view.loc (c : Thread nD τ))) (fd : Buf (Elt F) (dst.view.loc (nx c x.2 : Thread nD τ))) (q : PosShare TreeShare)
    {hsc : dst.view.ref.isScScratch = false}
    {hsrc : src.view.WordExact} {hdst : dst.view.WordExact} {hsem : DmaTarget.Typed .vmem rS (.remote (Dev.tc (nx c x.2) : Thread nD τ) dst sS hsc)}
    (hp₁ : (src.view.loc (c : Thread nD τ) ↦[src.view.set]{q} fs : sProp 𝕄) ⊢ sndPay m ρ c x)
    (hp₂ : (dst.view.loc (nx c x.2 : Thread nD τ) ↦[dst.view.set]{fullShare} (dst.view.write (Elt F) fd (src.view.read (Elt F) fs) Finset.univ) : sProp 𝕄)
      ⊢ rcvPay m ρ (nx c x.2) x)
    {k : PUnit → Prog (TpuEff nD τ sig (Elt F) Λ₀ .tc) α} (W : Waits sig Unit) :
    iprop(cellInv ER (ringRd m ρ) (K (c, snd x)) (cell c (snd x)) ∗ cellInv ER (ringRd m ρ) (K (nx c x.2, rcv x)) (cell (nx c x.2) (rcv x))
        ∗ (src.view.loc (c : Thread nD τ) ↦[src.view.set]{q} fs) ∗ (dst.view.loc (nx c x.2 : Thread nD τ) ↦[dst.view.set]{fullShare} fd)
        ∗ owes (c : Thread nD τ) (O + tallyAt (cell (nx c x.2) (rcv x)) () N) W
        ∗ dutyTok ER (cell c (snd x)) 0 0 ∗ reached ER (cell c (snd x)) 0
        ∗ dutyTok ER (cell (nx c x.2) (rcv x)) 0 0 ∗ reached ER (cell (nx c x.2) (rcv x)) 0)
      ⊢ iprop(((cred (tallyAt (cell c (snd x)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc (nx c x.2) : Thread nD τ) dst sS hsc) rS hsrc hdst hsem) k) Q) := by
  subst hs hr
  exact Rounds.wp_send_pointsTo 𝒱₀ ER (ringRd m ρ) (c : Thread nD τ) none (κ₁ := K (c, snd x)) (κ₂ := K (nx c x.2, rcv x))
    (r₁ := 0) (r₂ := 0) (d₁ := 0) (d₂ := 0) (fd := fd)
    (by rw [duties_snd]; exact Finset.mem_singleton_self _) (by rw [duties_rcv]; exact Finset.mem_singleton_self _)
    () () N hN (amount_snd m ρ c x 0) (amount_rcv m ρ (nx c x.2) x 0) O rfl (W := W)
    (by rw [payload_snd]; exact hp₁) (by rw [payload_rcv]; exact hp₂)

theorem step_send {Q : α → sProp 𝕄} (c n : Dev nD) (x : Fin 3 × Fin 3) (hn : n = nx c x.2) {sS rS : DmaSem sig} (hs : csem (snd x) = .dma sS) (hr : csem (rcv x) = .dma rS)
    (xs : List (Fin 3 × Fin 3)) {src dst : Memref sig .tc .vmem S128x256 .bf16} (hsrc' : src = slotM x.1 0) (hdst' : dst = slotM x.1 x.2.succ)
    {hsc : dst.view.ref.isScScratch = false} {hsrc : src.view.WordExact} {hdst : dst.view.WordExact}
    {hsem : DmaTarget.Typed .vmem (.dma rS) (.remote (Dev.tc n : Thread nD τ) dst (.dma sS) hsc)}
    {k : PUnit → Prog (TpuEff nD τ sig (Elt F) Λ₀ .tc) α} :
    records m ρ K ⊢ iprop(owing c (owe c (x :: xs)) -∗ unsent c x -∗ sndPay m ρ c x -∗ anySlot (nx c x.2) x.1 x.2.succ
      -∗ ((owing c (owe c xs) ∗ sent c x) -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma src (.remote (Dev.tc n : Thread nD τ) dst (.dma sS) hsc) (.dma rS) hsrc hdst hsem) k) Q) := by
  subst hn hsrc' hdst'
  unfold owing unsent anySlot sent
  rw [owe]
  iintro #HR ⟨%W, HO⟩ ⟨HtS, HtV, HaS⟩ Hsrc ⟨%fd, Hdst⟩ Hk
  ihave Hsrc := (show sndPay m ρ c x ⊢ _ from Entails.of_eq ((show sndPay m ρ c x = slotPts c x.1 0 (lent x.2) (spread (part m ρ x.1 c)) from rfl).trans (slotPts_view c x.1 0 (lent x.2) (spread (part m ρ x.1 c))))) $$ Hsrc
  ihave Hdst := (Entails.of_eq (slotPts_view (nx c x.2) x.1 x.2.succ fullShare fd)) $$ Hdst
  have hp₁ : ((slotM x.1 0).view.loc (c : Thread nD τ) ↦[(slotM x.1 0).view.set]{lent x.2} (spread (part m ρ x.1 c)) : sProp 𝕄) ⊢ sndPay m ρ c x := by
    rw [sndPay, slotPts_view]
  have hp₂ : ((slotM x.1 x.2.succ).view.loc (nx c x.2 : Thread nD τ) ↦[(slotM x.1 x.2.succ).view.set]{fullShare}
        ((slotM x.1 x.2.succ).view.write (Elt F) fd ((slotM x.1 0).view.read (Elt F) (spread (part m ρ x.1 c))) Finset.univ) : sProp 𝕄)
      ⊢ rcvPay m ρ (nx c x.2) x := by
    rw [rcvPay, fr_nx, slotPts_view]
    exact Entails.of_eq (pointsTo_congr (land_spread _ _ _ _ _ _))
  have h := send_slot m ρ K (Q := Q) (src := slotM x.1 0) (dst := slotM x.1 x.2.succ) c x (owe c xs) hs.symm hr.symm (slot_credit x.1 x.2.succ)
    (spread (part m ρ x.1 c)) fd (lent x.2) (hsc := hsc) (hsrc := hsrc) (hdst := hdst) (hsem := hsem)
    hp₁ hp₂ (k := k) W
  iapply h $$ [Hsrc Hdst HO HtS HtV]
  · isplitr; · iapply (records_inv m ρ K c (snd x)); iexact HR
    isplitr; · iapply (records_inv m ρ K (nx c x.2) (rcv x)); iexact HR
    isplitl [Hsrc]; · iexact Hsrc
    isplitl [Hdst]; · iexact Hdst
    isplitl [HO]; · iexact HO
    isplitl [HtS]; · iexact HtS
    isplitr; · iapply (records_reached m ρ K c (snd x)); iexact HR
    isplitl [HtV]; · iexact HtV
    iapply (records_reached m ρ K (nx c x.2) (rcv x)); iexact HR
  iintro ⟨Hc, HO⟩
  iapply Hk
  isplitl [HO]; · iexists W; iexact HO
  isplitl [HaS] <;> iassumption

/-- The wait for a landing, while owing landings of later layers only. -/
theorem step_recv {Q : α → sProp 𝕄} (c : Dev nD) (x : Fin 3 × Fin 3) {q : DmaSem sig} (hq : SemLoc.dma q = csem (rcv x)) (xs : List (Fin 3 × Fin 3))
    (hxs : ∀ y ∈ xs, 2 + x.1.val < 2 + y.1.val) {src dst : Memref sig .tc .vmem S128x256 .bf16} (hN : dst.view.dmaCredit = N)
    {hsrc : src.view.WordExact} {hdst : dst.view.WordExact}
    {k : PUnit → Prog (TpuEff nD τ sig (Elt F) Λ₀ .tc) α} :
    records m ρ K ⊢ iprop(levAts L lv -∗ owing c (owe c xs) -∗ coming c x
      -∗ ((owing c (owe c xs) ∗ semVal (cell c (rcv x)) 0 ∗ rcvPay m ρ c x) -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 q src dst hsrc hdst) k) Q) := by
  unfold owing coming
  iintro #HR #Hlev ⟨%W, HO⟩ ⟨Hat, Hc⟩ Hk
  iapply (Rounds.wp_wait_rest_token 𝒱₀ ER (ringRd m ρ) (c : Thread nD τ) none (κ := K (c, rcv x)) (sm := csem (rcv x)) (k' := N)
      (fun Kt => by rw [← hq, ← hN]; exact wpE_waitDma2_eq 𝒱₀ (c : Thread nD τ) none Set.univ Kt) (Set.mem_univ _) () (O := owe c xs) (W := W) (R := 0) (m := 0) (T := ∅)
      (by rw [Nat.zero_add, expect_rcv])) $$ [Hc HO Hat]
  · isplitr; · iapply (records_inv m ρ K c (rcv x)); iexact HR
    isplitl [Hc]; · iexact Hc
    isplitl [HO]; · iexact HO
    isplitr; · iapply (mayWait_owe c (csem (rcv x)) xs (2 + x.1.val) (lv_rcv c x).le hxs); iexact Hlev
    iexact Hat
  iintro ⟨HO, Hat, -, Hpay⟩
  imod (Rounds.cell_close ER (ringRd m ρ) (Set.mem_univ (K (c, rcv x))) (fun h => h) (R := 0 + 1) (duties_later m ρ (cell c (rcv x)))) $$ [Hat] with Hz
  · isplitr; · iapply (records_inv m ρ K c (rcv x)); iexact HR
    iexact Hat
  ihave Hp := (Entails.of_eq (rest_rcv m ρ c x)) $$ Hpay
  iapply Hk
  isplitl [HO]; · iexists _; iexact HO
  isplitl [Hz]; · iexact Hz
  iexact Hp

/-- The wait for a copy's own end, owing nothing any more. -/
theorem step_sent {Q : α → sProp 𝕄} (c : Dev nD) (x : Fin 3 × Fin 3) {q : DmaSem sig} (hq : SemLoc.dma q = csem (snd x)) {src dst : Memref sig .tc .vmem S128x256 .bf16} (hN : dst.view.dmaCredit = N)
    {hsrc : src.view.WordExact} {hdst : dst.view.WordExact}
    {k : PUnit → Prog (TpuEff nD τ sig (Elt F) Λ₀ .tc) α} :
    records m ρ K ⊢ iprop(owing c (owe c []) -∗ sent c x
      -∗ ((owing c (owe c []) ∗ semVal (cell c (snd x)) 0 ∗ sndPay m ρ c x) -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 q src dst hsrc hdst) k) Q) := by
  unfold owing sent
  iintro #HR ⟨%W, HO⟩ ⟨Hat, Hc⟩ Hk
  iapply (Rounds.wp_wait_rest_token 𝒱₀ ER (ringRd m ρ) (c : Thread nD τ) none (κ := K (c, snd x)) (sm := csem (snd x)) (k' := N)
      (fun Kt => by rw [← hq, ← hN]; exact wpE_waitDma2_eq 𝒱₀ (c : Thread nD τ) none Set.univ Kt) (Set.mem_univ _) () (O := owe c []) (W := W) (R := 0) (m := 0) (T := ∅)
      (by rw [Nat.zero_add, expect_snd])) $$ [Hc HO Hat]
  · isplitr; · iapply (records_inv m ρ K c (snd x)); iexact HR
    isplitl [Hc]; · iexact Hc
    isplitl [HO]; · iexact HO
    isplitr; · rw [owe, MayWait_zero]; iempintro
    iexact Hat
  iintro ⟨HO, Hat, -, Hpay⟩
  imod (Rounds.cell_close ER (ringRd m ρ) (Set.mem_univ (K (c, snd x))) (fun h => h) (R := 0 + 1) (duties_later m ρ (cell c (snd x)))) $$ [Hat] with Hz
  · isplitr; · iapply (records_inv m ρ K c (snd x)); iexact HR
    iexact Hat
  ihave Hp := (Entails.of_eq (rest_snd m ρ c x)) $$ Hpay
  iapply Hk
  isplitl [HO]; · iexists _; iexact HO
  isplitl [Hz]; · iexact Hz
  iexact Hp

/-- Loading a slot of known contents, at any share of it. -/
theorem step_load {Q : α → sProp 𝕄} (c : Dev nD) (ℓ : Fin 3) (k₁ : Fin 4) {q : PosShare TreeShare} {v : FVec F S1x1x128x256 .bf16}
    {hl : (scr : Memref sig .tc .vmem S3x4x128x256 .bf16).view.LoadsAt (slotR ℓ k₁).toLoadRect}
    {k : ((slotR ℓ k₁).toLoadRect.shape.Idx → Elt F .bf16) → Prog (TpuEff nD τ sig (Elt F) Λ₀ .tc) α} :
    slotPts c ℓ k₁ q (spread v) ⊢ iprop((slotPts c ℓ k₁ q (spread v) -∗ wp frame (wpE (defs₀ (F := F)) 𝒱₀ (c : Thread nD τ) none) Set.univ (k v) Q)
      -∗ wp frame (wpE (defs₀ (F := F)) 𝒱₀ (c : Thread nD τ) none) Set.univ (.op (.load scr (slotR ℓ k₁).toLoadRect hl) k) Q) := by
  have h := wp_load_rect (defs := defs₀ (F := F)) 𝒱₀ (c : Thread nD τ) none Set.univ (Γ := .empty) (Q := Q) (m := scr) (r := slotR ℓ k₁) (hl := hl) (k := k)
    (S := slotS ℓ k₁) (q := q) (f := spread v) (access_set ℓ k₁).le
  rw [show (scr.access (slotR ℓ k₁)).read (Elt F) (spread v) = v from readAt_spread ℓ k₁ v] at h
  exact h

/-- Loading a slot of any contents, whatever is made of it. -/
theorem step_load_any {Q : α → sProp 𝕄} (c : Dev nD) (ℓ : Fin 3) (k₁ : Fin 4)
    {hl : (scr : Memref sig .tc .vmem S3x4x128x256 .bf16).view.LoadsAt (slotR ℓ k₁).toLoadRect}
    {k : ((slotR ℓ k₁).toLoadRect.shape.Idx → Elt F .bf16) → Prog (TpuEff nD τ sig (Elt F) Λ₀ .tc) α} :
    anySlot c ℓ k₁ ⊢ iprop((∀ w, anySlot c ℓ k₁ -∗ wp frame (wpE (defs₀ (F := F)) 𝒱₀ (c : Thread nD τ) none) Set.univ (k w) Q)
      -∗ wp frame (wpE (defs₀ (F := F)) 𝒱₀ (c : Thread nD τ) none) Set.univ (.op (.load scr (slotR ℓ k₁).toLoadRect hl) k) Q) := by
  unfold anySlot
  iintro ⟨%f, H⟩ Hk
  have h := wp_load_rect (defs := defs₀ (F := F)) 𝒱₀ (c : Thread nD τ) none Set.univ (Γ := .empty) (Q := Q) (m := scr) (r := slotR ℓ k₁) (hl := hl) (k := k)
    (S := slotS ℓ k₁) (q := fullShare) (f := f) (access_set ℓ k₁).le
  iapply (show slotPts c ℓ k₁ fullShare f ⊢ iprop((slotPts c ℓ k₁ fullShare f -∗ _) -∗ _) from h) $$ H
  iintro H
  iapply Hk $$ %_
  iexists f; iexact H

/-- Storing into a slot, its contents then lent in three and kept in part. -/
theorem step_store {Q : α → sProp 𝕄} (c : Dev nD) (ℓ : Fin 3) (w : FVec F S1x1x128x256 .bf16)
    {hx : (scr.access (slotR ℓ 0) : View sig .tc _ _ _).Stores Finset.univ} {hm : (Finset.univ : Finset (slotR ℓ 0).shape.Idx) = Finset.univ ∨ ∀ a, (slotR ℓ 0).stride a = 1}
    {k : PUnit → Prog (TpuEff nD τ sig (Elt F) Λ₀ .tc) α} :
    anySlot c ℓ 0 ⊢ iprop(((slotPts c ℓ 0 kept (spread w) ∗ slotPts c ℓ 0 (lent 0) (spread w) ∗ slotPts c ℓ 0 (lent 1) (spread w) ∗ slotPts c ℓ 0 (lent 2) (spread w))
        -∗ wp frame (wpE (defs₀ (F := F)) 𝒱₀ (c : Thread nD τ) none) Set.univ (k ⟨⟩) Q)
      -∗ wp frame (wpE (defs₀ (F := F)) 𝒱₀ (c : Thread nD τ) none) Set.univ (.op (.store scr (slotR ℓ 0) w Finset.univ hx hm) k) Q) := by
  unfold anySlot
  iintro ⟨%f, H⟩ Hk
  have h := wp_store (defs := defs₀ (F := F)) 𝒱₀ (c : Thread nD τ) none Set.univ (Γ := .empty) (Q := Q) (m := scr) (r := slotR ℓ 0) (w := w) (Mk := Finset.univ) (hx := hx) (hm := hm) (k := k)
    (S := slotS ℓ 0) (f := f) (access_set ℓ 0).le
  iapply (show slotPts c ℓ 0 fullShare f ⊢ iprop((slotPts c ℓ 0 fullShare _ -∗ _) -∗ _) from h) $$ H
  iintro H
  ihave H := (Entails.of_eq ((slotPts_congr c ℓ 0 fullShare (write_spread ℓ 0 f w)).trans (slot_lend c ℓ 0 (spread w)))) $$ H
  iapply Hk
  iexact H

end Cert.KernelIdeal.Mlp

end
-- ==== Proof.BodyKernelIdeal.lean ====
/-
# The body

The kernel body run symbolically on one device, one rule per effect in program order.
-/
module

public import proofs.«01_k».proof.Proof.StepsKernelIdeal

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Cell → ℕ)

omit [FloatOps F] in
theorem bigSep_nine (Φ : Fin 3 × Fin 3 → sProp 𝕄) : bigSep Finset.univ Φ
    = iprop(Φ (0, 0) ∗ Φ (0, 1) ∗ Φ (0, 2) ∗ Φ (1, 0) ∗ Φ (1, 1) ∗ Φ (1, 2) ∗ Φ (2, 0) ∗ Φ (2, 1) ∗ Φ (2, 2)) :=
  bigSep_univ_eq_bigSepL [(0, 0), (0, 1), (0, 2), (1, 0), (1, 1), (1, 2), (2, 0), (2, 1), (2, 2)] (by decide) (by decide) Φ

omit [FloatOps F] in
theorem bigSep_twelve (Φ : Fin 3 × Fin 4 → sProp 𝕄) : bigSep Finset.univ Φ
    = iprop(Φ (0, 0) ∗ Φ (0, 1) ∗ Φ (0, 2) ∗ Φ (0, 3) ∗ Φ (1, 0) ∗ Φ (1, 1) ∗ Φ (1, 2) ∗ Φ (1, 3) ∗ Φ (2, 0) ∗ Φ (2, 1) ∗ Φ (2, 2) ∗ Φ (2, 3)) :=
  bigSep_univ_eq_bigSepL [(0, 0), (0, 1), (0, 2), (0, 3), (1, 0), (1, 1), (1, 2), (1, 3), (2, 0), (2, 1), (2, 2), (2, 3)] (by decide) (by decide) Φ

theorem barPay_all (c : Dev nD) : (iprop(barPay (F := F) c 0 ∗ barPay c 1 ∗ barPay c 2) : sProp 𝕄)
    = iprop((anySlot (nx c 0) 0 (0 : Fin 3).succ ∗ anySlot (nx c 0) 1 (0 : Fin 3).succ ∗ anySlot (nx c 0) 2 (0 : Fin 3).succ)
        ∗ (anySlot (nx c 1) 0 (1 : Fin 3).succ ∗ anySlot (nx c 1) 1 (1 : Fin 3).succ ∗ anySlot (nx c 1) 2 (1 : Fin 3).succ)
        ∗ (anySlot (nx c 2) 0 (2 : Fin 3).succ ∗ anySlot (nx c 2) 1 (2 : Fin 3).succ ∗ anySlot (nx c 2) 2 (2 : Fin 3).succ)) := by
  unfold barPay
  rw [bigSep_three, bigSep_three, bigSep_three]
  rfl

theorem hz : (![0, 0] : Fin 2 → Nat) = fun _ => 0 := funext fun a => by fin_cases a <;> rfl

/-- The exchange's ghost state device `c` starts from: the records, its place at its barrier, the three barrier duties it
    pays, and its nine copies in either direction. -/
def ghost (c : Dev nD) : sProp 𝕄 :=
  iprop(records m ρ K ∗ atPos ER (cell c bar) 0 ∅ 0
    ∗ (bigSep Finset.univ fun j : Fin 3 => dutyTok ER (cell (nx c j) bar) 0 j.rev)
    ∗ (bigSep Finset.univ fun x : Fin 3 × Fin 3 => unsent c x)
    ∗ (bigSep Finset.univ fun x : Fin 3 × Fin 3 => atPos ER (cell c (rcv x)) 0 ∅ 0))

/-- What device `c`'s body starts from: that at some names, the credit to wait with, and the levels. -/
def start (c : Dev nD) : sProp 𝕄 :=
  iprop((∃ K, ghost m ρ K c) ∗ cred (tallyAt (cell c bar) () 3)
    ∗ (bigSep Finset.univ fun x : Fin 3 × Fin 3 => cred (tallyAt (cell c (rcv x)) () N)) ∗ levAts L lv)

def Φ₀ (c : Dev nD) : sProp 𝕄 := iprop(start m ρ c ∗ ∃ f, (((c : Thread nD τ).loc cc0_scratch0) ↦{fullShare} f))
/-- At the end: the landing buffer, and every cell of the exchange closed at zero. -/
def Φ₁ (c : Dev nD) : sProp 𝕄 :=
  iprop((∃ f, (((c : Thread nD τ).loc cc0_scratch0) ↦{fullShare} f)) ∗ semVal (cell c bar) 0
    ∗ (bigSep Finset.univ fun x : Fin 3 × Fin 3 => semVal (cell c (snd x)) 0)
    ∗ (bigSep Finset.univ fun x : Fin 3 × Fin 3 => semVal (cell c (rcv x)) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => in0 m ρ c
    | ⟨1, _⟩ => in1 m ρ c
    | ⟨2, _⟩ => in2 m ρ c
    | ⟨3, _⟩ => in3 m ρ c
    | ⟨4, _⟩ => in4 m ρ c
    | ⟨5, _⟩ => in5 m ρ c
    | ⟨6, _⟩ => in6 m ρ c
    | ⟨7, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- A staging buffer at known contents. -/
abbrev stg (c : Dev nD) (b : Ref sig .tc) (X : b.ty.Contents (Elt F)) : sProp 𝕄 := (((c : Thread nD τ).loc b) ↦{fullShare} X)

/-- The contents of device `c`'s slots at the end. -/
def final (c : Dev nD) (p : Fin 3 × Fin 4) : (cc0_scratch0 : Ref sig .tc).ty.Contents (Elt F) := match p.2 with
  | ⟨0, _⟩ => spread (part m ρ p.1 c)
  | ⟨1, _⟩ => spread (part m ρ p.1 (fr c 0))
  | ⟨2, _⟩ => spread (part m ρ p.1 (fr c 1))
  | ⟨3, _⟩ => spread (part m ρ p.1 (fr c 2))

def bodyPre (c : Dev nD) : sProp 𝕄 :=
  iprop(ghost m ρ K c ∗ cred (tallyAt (cell c bar) () 3)
    ∗ (bigSep Finset.univ fun x : Fin 3 × Fin 3 => cred (tallyAt (cell c (rcv x)) () N)) ∗ levAts L lv
    ∗ (bigSep Finset.univ fun p : Fin 3 × Fin 4 => anySlot c p.1 p.2)
    ∗ owing c (O₀ c)
    ∗ stg c cc0_stg0_0 (in0 m ρ c) ∗ stg c cc0_stg1_0 (in1 m ρ c) ∗ stg c cc0_stg2_0 (in2 m ρ c) ∗ stg c cc0_stg3_0 (in3 m ρ c)
    ∗ stg c cc0_stg4_0 (in4 m ρ c) ∗ stg c cc0_stg5_0 (in5 m ρ c) ∗ stg c cc0_stg6_0 (in6 m ρ c) ∗ ∃ f, stg c cc0_stg7_0 f)

def bodyPost (c : Dev nD) : sProp 𝕄 :=
  iprop(Φ₁ c ∗ owing c 0
    ∗ stg c cc0_stg0_0 (in0 m ρ c) ∗ stg c cc0_stg1_0 (in1 m ρ c) ∗ stg c cc0_stg2_0 (in2 m ρ c) ∗ stg c cc0_stg3_0 (in3 m ρ c)
    ∗ stg c cc0_stg4_0 (in4 m ρ c) ∗ stg c cc0_stg5_0 (in5 m ρ c) ∗ stg c cc0_stg6_0 (in6 m ρ c) ∗ stg c cc0_stg7_0 (outAt m ρ c))

/-! ## The steps at the contents the run gives them -/

/-- Storing the layer's partial product: what the three copies will lend, and the rest. -/
theorem step_part {α : Type} {Q : α → sProp 𝕄} (c : Dev nD) (ℓ : Fin 3) (w : FVec F S1x1x128x256 .bf16) (hw : w = part m ρ ℓ c)
    {hx : (scr.access (slotR ℓ 0) : View sig .tc _ _ _).Stores Finset.univ} {hm : (Finset.univ : Finset (slotR ℓ 0).shape.Idx) = Finset.univ ∨ ∀ a, (slotR ℓ 0).stride a = 1}
    {k : PUnit → Prog (TpuEff nD τ sig (Elt F) Λ₀ .tc) α} :
    anySlot c ℓ 0 ⊢ iprop(((slotPts c ℓ 0 kept (spread (part m ρ ℓ c)) ∗ sndPay m ρ c (ℓ, 0) ∗ sndPay m ρ c (ℓ, 1) ∗ sndPay m ρ c (ℓ, 2))
        -∗ wp frame (wpE (defs₀ (F := F)) 𝒱₀ (c : Thread nD τ) none) Set.univ (k ⟨⟩) Q)
      -∗ wp frame (wpE (defs₀ (F := F)) 𝒱₀ (c : Thread nD τ) none) Set.univ (.op (.store scr (slotR ℓ 0) w Finset.univ hx hm) k) Q) := by
  subst hw
  exact step_store c ℓ _

/-- Loading a slot a copy has landed in. -/
theorem step_got {α : Type} {Q : α → sProp 𝕄} (c : Dev nD) (x : Fin 3 × Fin 3)
    {hl : (scr : Memref sig .tc .vmem S3x4x128x256 .bf16).view.LoadsAt (slotR x.1 x.2.succ).toLoadRect}
    {k : ((slotR x.1 x.2.succ).toLoadRect.shape.Idx → Elt F .bf16) → Prog (TpuEff nD τ sig (Elt F) Λ₀ .tc) α} :
    rcvPay m ρ c x ⊢ iprop((rcvPay m ρ c x -∗ wp frame (wpE (defs₀ (F := F)) 𝒱₀ (c : Thread nD τ) none) Set.univ (k (part m ρ x.1 (fr c x.2))) Q)
      -∗ wp frame (wpE (defs₀ (F := F)) 𝒱₀ (c : Thread nD τ) none) Set.univ (.op (.load scr (slotR x.1 x.2.succ).toLoadRect hl) k) Q) :=
  step_load c x.1 x.2.succ

theorem rcvPay_final (c : Dev nD) (ℓ j : Fin 3) : rcvPay m ρ c (ℓ, j) = slotPts c ℓ j.succ fullShare (final m ρ c (ℓ, j.succ)) := by
  fin_cases j <;> rfl

/-- A slot's shares back together, and the slots back into the whole buffer. -/
theorem slots_back (c : Dev nD) :
    iprop((bigSep Finset.univ fun ℓ : Fin 3 => iprop(slotPts c ℓ 0 kept (spread (part m ρ ℓ c)) ∗ sndPay m ρ c (ℓ, 0) ∗ sndPay m ρ c (ℓ, 1) ∗ sndPay m ρ c (ℓ, 2)))
      ∗ (bigSep Finset.univ fun x : Fin 3 × Fin 3 => rcvPay m ρ c x))
      ⊢ iprop(∃ g, (((c : Thread nD τ).loc cc0_scratch0) ↦{fullShare} g)) := by
  refine BIBase.Entails.trans ?_ (slots_join c (final m ρ c))
  rw [bigSep_three, bigSep_nine, bigSep_twelve]
  have h : ∀ ℓ, iprop(slotPts c ℓ 0 kept (spread (part m ρ ℓ c)) ∗ sndPay m ρ c (ℓ, 0) ∗ sndPay m ρ c (ℓ, 1) ∗ sndPay m ρ c (ℓ, 2))
      = slotPts c ℓ 0 fullShare (spread (part m ρ ℓ c)) := fun ℓ => (slot_lend c ℓ 0 _).symm
  rw [h, h, h]
  simp only [rcvPay_final]
  iintro ⟨⟨K0, K1, K2⟩, R00, R01, R02, R10, R11, R12, R20, R21, R22⟩
  isplitl [K0]; · iexact K0
  isplitl [R00]; · iexact R00
  isplitl [R01]; · iexact R01
  isplitl [R02]; · iexact R02
  isplitl [K1]; · iexact K1
  isplitl [R10]; · iexact R10
  isplitl [R11]; · iexact R11
  isplitl [R12]; · iexact R12
  isplitl [K2]; · iexact K2
  isplitl [R20]; · iexact R20
  isplitl [R21]; · iexact R21
  iexact R22

theorem part_one (c : Dev nD) : k0_pay5 (k0_pay2 (in2 m ρ c) (in3 m ρ c)) (part m ρ 0 c) (part m ρ 0 (fr c 0)) (part m ρ 0 (fr c 1)) (part m ρ 0 (fr c 2))
    = part m ρ 1 c := rfl
theorem part_two (c : Dev nD) : k0_pay7 (k0_pay6 (k0_pay3 (in4 m ρ c) (in5 m ρ c)) (part m ρ 1 c) (part m ρ 1 (fr c 0)) (part m ρ 1 (fr c 1)) (part m ρ 1 (fr c 2)))
    = part m ρ 2 c := rfl
theorem out_eq (c : Dev nD) : k0_pay9 (k0_pay4 (in6 m ρ c)) (k0_pay8 (part m ρ 2 c) (part m ρ 2 (fr c 0))) (part m ρ 2 (fr c 1)) (part m ρ 2 (fr c 2))
    = outAt m ρ c := rfl
theorem read0 (f : (cc0_stg0_0 : Ref sig .tc).ty.Contents (Elt F)) : View.readAt (Elt F) (Memref.whole cc0_stg0_0).view (Rect.unit ![0, 0] ![128, 128] inb_S128x128_S128x128_0_0).toLoadRect f = f :=
  Memref.readAt_unit_zero (Elt F) cc0_stg0_0 hz _ f
theorem read1 (f : (cc0_stg1_0 : Ref sig .tc).ty.Contents (Elt F)) : View.readAt (Elt F) (Memref.whole cc0_stg1_0).view (Rect.unit ![0, 0] ![128, 256] inb_S128x256_S128x256_0_0).toLoadRect f = f :=
  Memref.readAt_unit_zero (Elt F) cc0_stg1_0 hz _ f
theorem read2 (f : (cc0_stg2_0 : Ref sig .tc).ty.Contents (Elt F)) : View.readAt (Elt F) (Memref.whole cc0_stg2_0).view (Rect.unit ![0, 0] ![256, 128] inb_S256x128_S256x128_0_0).toLoadRect f = f :=
  Memref.readAt_unit_zero (Elt F) cc0_stg2_0 hz _ f
theorem read3 (f : (cc0_stg3_0 : Ref sig .tc).ty.Contents (Elt F)) : View.readAt (Elt F) (Memref.whole cc0_stg3_0).view (Rect.unit ![0, 0] ![128, 256] inb_S128x256_S128x256_0_0).toLoadRect f = f :=
  Memref.readAt_unit_zero (Elt F) cc0_stg3_0 hz _ f
theorem read4 (f : (cc0_stg4_0 : Ref sig .tc).ty.Contents (Elt F)) : View.readAt (Elt F) (Memref.whole cc0_stg4_0).view (Rect.unit ![0, 0] ![256, 128] inb_S256x128_S256x128_0_0).toLoadRect f = f :=
  Memref.readAt_unit_zero (Elt F) cc0_stg4_0 hz _ f
theorem read5 (f : (cc0_stg5_0 : Ref sig .tc).ty.Contents (Elt F)) : View.readAt (Elt F) (Memref.whole cc0_stg5_0).view (Rect.unit ![0, 0] ![128, 256] inb_S128x256_S128x256_0_0).toLoadRect f = f :=
  Memref.readAt_unit_zero (Elt F) cc0_stg5_0 hz _ f
theorem read6 (f : (cc0_stg6_0 : Ref sig .tc).ty.Contents (Elt F)) : View.readAt (Elt F) (Memref.whole cc0_stg6_0).view (Rect.unit ![0, 0] ![256, 128] inb_S256x128_S256x128_0_0).toLoadRect f = f :=
  Memref.readAt_unit_zero (Elt F) cc0_stg6_0 hz _ f
theorem write7 (f w : (cc0_stg7_0 : Ref sig .tc).ty.Contents (Elt F)) : ((Memref.whole cc0_stg7_0).access (Rect.unit ![0, 0] ![128, 128] inb_S128x128_S128x128_0_0)).write (Elt F) f w Finset.univ = w :=
  Memref.write_access_unit_zero_univ (Elt F) cc0_stg7_0 hz _ f w

set_option maxHeartbeats 1000000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_stg6_0) (Memref.isWhole_whole _) (Memref.whole cc0_stg7_0) (Memref.isWhole_whole _)
            (Memref.whole cc0_scratch0) (Memref.isWhole_whole _) cc0_scratch1 cc0_scratch2) Kt := by
  unfold bodyPre ghost
  rw [bigSep_three, bigSep_nine, bigSep_nine, bigSep_nine, bigSep_twelve]
  iintro ⟨⟨⟨#HR, HaB, ⟨Ht0, Ht1, Ht2⟩, ⟨U00, U01, U02, U10, U11, U12, U20, U21, U22⟩, ⟨A00, A01, A02, A10, A11, A12, A20, A21, A22⟩⟩,
    HcB, ⟨C00, C01, C02, C10, C11, C12, C20, C21, C22⟩, #Hlev,
    ⟨S00, S01, S02, S03, S10, S11, S12, S13, S20, S21, S22, S23⟩, HO, X0, X1, X2, X3, X4, X5, X6, ⟨%f7, X7⟩⟩, Hk⟩
  unfold O₀
  simp only [cc0_body_eq_skeleton]; unfold cc0_body_skel
  simp only [k0_part1_eq_skeleton]; unfold k0_part1_skel
  simp only [Prog.lift, Prog.bind_op, Prog.bind_ret, Prog.pure_eq_ret, semSignalWord, semWaitWord, wp_deviceId, dev1_eq, dev2_eq, dev3_eq]
  iapply (step_signal m ρ K c (nx c 0) 0 rfl _ (by decide)) $$ HR HO Ht0 [S03 S13 S23]
  · isplitl [S03]; · iexact S03
    isplitl [S13]; · iexact S13
    iexact S23
  iintro HO
  iapply (step_signal m ρ K c (nx c 1) 1 rfl _ (by decide)) $$ HR HO Ht1 [S02 S12 S22]
  · isplitl [S02]; · iexact S02
    isplitl [S12]; · iexact S12
    iexact S22
  iintro HO
  iapply (step_signal m ρ K c (nx c 2) 2 rfl _ (by decide)) $$ HR HO Ht2 [S01 S11 S21]
  · isplitl [S01]; · iexact S01
    isplitl [S11]; · iexact S11
    iexact S21
  iintro HO
  iapply (wp_load 𝒱₀ (c : Thread nD τ) none Set.univ (m := (Memref.whole cc0_stg0_0)) (Finset.subset_univ _)) $$ X0; iintro X0
  iapply (wp_load 𝒱₀ (c : Thread nD τ) none Set.univ (m := (Memref.whole cc0_stg1_0)) (Finset.subset_univ _)) $$ X1; iintro X1
  iapply (step_load_any c 0 0) $$ S00; iintro %_ S00
  iapply (step_part m ρ c 0 _ (by rw [read0, read1]; rfl)) $$ S00; iintro ⟨S00, L00, L01, L02⟩
  iapply (step_barrier m ρ K c (by decide) xfers0) $$ HR Hlev HO HcB HaB
  iintro ⟨HO, HzB, HB⟩
  ihave HB := (Entails.of_eq (barPay_all c)) $$ HB
  icases HB with ⟨⟨R00, R10, R20⟩, ⟨R01, R11, R21⟩, ⟨R02, R12, R22⟩⟩
  simp only [k0_part2_eq_skeleton]; unfold k0_part2_skel
  simp only [Prog.lift, Prog.bind_op, Prog.bind_ret, Prog.pure_eq_ret]
  iapply (step_send m ρ K c _ (0, 0) (dev4_eq c) (sndS_eq 0 0).symm (rcvS_eq 0 0).symm _ rfl rfl) $$ HR HO U00 L00 R00
  iintro ⟨HO, U00⟩
  iapply (step_send m ρ K c _ (0, 1) (dev5_eq c) (sndS_eq 0 1).symm (rcvS_eq 0 1).symm _ rfl rfl) $$ HR HO U01 L01 R01
  iintro ⟨HO, U01⟩
  simp only [k0_part3_eq_skeleton]; unfold k0_part3_skel
  simp only [Prog.lift, Prog.bind_op, Prog.bind_ret, Prog.pure_eq_ret]
  iapply (step_send m ρ K c _ (0, 2) (dev6_eq c) (sndS_eq 0 2).symm (rcvS_eq 0 2).symm _ rfl rfl) $$ HR HO U02 L02 R02
  iintro ⟨HO, U02⟩
  iapply (wp_load 𝒱₀ (c : Thread nD τ) none Set.univ (m := (Memref.whole cc0_stg2_0)) (Finset.subset_univ _)) $$ X2; iintro X2
  iapply (wp_load 𝒱₀ (c : Thread nD τ) none Set.univ (m := (Memref.whole cc0_stg3_0)) (Finset.subset_univ _)) $$ X3; iintro X3
  iapply (wp_load 𝒱₀ (c : Thread nD τ) none Set.univ (m := (Memref.whole cc0_stg4_0)) (Finset.subset_univ _)) $$ X4; iintro X4
  iapply (wp_load 𝒱₀ (c : Thread nD τ) none Set.univ (m := (Memref.whole cc0_stg5_0)) (Finset.subset_univ _)) $$ X5; iintro X5
  iapply (wp_load 𝒱₀ (c : Thread nD τ) none Set.univ (m := (Memref.whole cc0_stg6_0)) (Finset.subset_univ _)) $$ X6; iintro X6
  simp only [k0_part4_eq_skeleton]; unfold k0_part4_skel
  simp only [Prog.lift, Prog.bind_op, Prog.bind_ret, Prog.pure_eq_ret]
  iapply (step_recv m ρ K c (0, 0) (rcvS_eq 0 0) xfers1 (by decide) (slot_credit 0 1)) $$ HR Hlev HO [A00 C00]
  · unfold coming; isplitl [A00] <;> iassumption
  iintro ⟨HO, Z00, R00⟩
  iapply (step_recv m ρ K c (0, 1) (rcvS_eq 0 1) xfers1 (by decide) (slot_credit 0 2)) $$ HR Hlev HO [A01 C01]
  · unfold coming; isplitl [A01] <;> iassumption
  iintro ⟨HO, Z01, R01⟩
  simp only [k0_part5_eq_skeleton]; unfold k0_part5_skel
  simp only [Prog.lift, Prog.bind_op, Prog.bind_ret, Prog.pure_eq_ret]
  iapply (step_recv m ρ K c (0, 2) (rcvS_eq 0 2) xfers1 (by decide) (slot_credit 0 3)) $$ HR Hlev HO [A02 C02]
  · unfold coming; isplitl [A02] <;> iassumption
  iintro ⟨HO, Z02, R02⟩
  iapply (step_load c 0 0) $$ S00; iintro S00
  iapply (step_got m ρ c (0, 0)) $$ R00; iintro R00
  iapply (step_got m ρ c (0, 1)) $$ R01; iintro R01
  iapply (step_got m ρ c (0, 2)) $$ R02; iintro R02
  iapply (step_load_any c 1 0) $$ S10; iintro %_ S10
  iapply (step_part m ρ c 1 _ (by rw [read2, read3]; exact part_one m ρ c)) $$ S10; iintro ⟨S10, L10, L11, L12⟩
  simp only [k0_part6_eq_skeleton]; unfold k0_part6_skel
  simp only [Prog.lift, Prog.bind_op, Prog.bind_ret, Prog.pure_eq_ret]
  iapply (step_send m ρ K c _ (1, 0) (dev7_eq c) (sndS_eq 1 0).symm (rcvS_eq 1 0).symm _ rfl rfl) $$ HR HO U10 L10 R10
  iintro ⟨HO, U10⟩
  iapply (step_send m ρ K c _ (1, 1) (dev8_eq c) (sndS_eq 1 1).symm (rcvS_eq 1 1).symm _ rfl rfl) $$ HR HO U11 L11 R11
  iintro ⟨HO, U11⟩
  simp only [k0_part7_eq_skeleton]; unfold k0_part7_skel
  simp only [Prog.lift, Prog.bind_op, Prog.bind_ret, Prog.pure_eq_ret]
  iapply (step_send m ρ K c _ (1, 2) (dev9_eq c) (sndS_eq 1 2).symm (rcvS_eq 1 2).symm _ rfl rfl) $$ HR HO U12 L12 R12
  iintro ⟨HO, U12⟩
  iapply (step_recv m ρ K c (1, 0) (rcvS_eq 1 0) xfers2 (by decide) (slot_credit 1 1)) $$ HR Hlev HO [A10 C10]
  · unfold coming; isplitl [A10] <;> iassumption
  iintro ⟨HO, Z10, R10⟩
  iapply (step_recv m ρ K c (1, 1) (rcvS_eq 1 1) xfers2 (by decide) (slot_credit 1 2)) $$ HR Hlev HO [A11 C11]
  · unfold coming; isplitl [A11] <;> iassumption
  iintro ⟨HO, Z11, R11⟩
  simp only [k0_part8_eq_skeleton]; unfold k0_part8_skel
  simp only [Prog.lift, Prog.bind_op, Prog.bind_ret, Prog.pure_eq_ret]
  iapply (step_recv m ρ K c (1, 2) (rcvS_eq 1 2) xfers2 (by decide) (slot_credit 1 3)) $$ HR Hlev HO [A12 C12]
  · unfold coming; isplitl [A12] <;> iassumption
  iintro ⟨HO, Z12, R12⟩
  iapply (step_load c 1 0) $$ S10; iintro S10
  iapply (step_got m ρ c (1, 0)) $$ R10; iintro R10
  iapply (step_got m ρ c (1, 1)) $$ R11; iintro R11
  iapply (step_got m ρ c (1, 2)) $$ R12; iintro R12
  simp only [k0_part9_eq_skeleton]; unfold k0_part9_skel
  simp only [Prog.lift, Prog.bind_op, Prog.bind_ret, Prog.pure_eq_ret]
  iapply (step_load_any c 2 0) $$ S20; iintro %_ S20
  iapply (step_part m ρ c 2 _ (by rw [read4, read5]; exact part_two m ρ c)) $$ S20; iintro ⟨S20, L20, L21, L22⟩
  iapply (step_send m ρ K c _ (2, 0) (dev10_eq c) (sndS_eq 2 0).symm (rcvS_eq 2 0).symm _ rfl rfl) $$ HR HO U20 L20 R20
  iintro ⟨HO, U20⟩
  simp only [k0_part10_eq_skeleton]; unfold k0_part10_skel
  simp only [Prog.lift, Prog.bind_op, Prog.bind_ret, Prog.pure_eq_ret]
  iapply (step_send m ρ K c _ (2, 1) (dev11_eq c) (sndS_eq 2 1).symm (rcvS_eq 2 1).symm _ rfl rfl) $$ HR HO U21 L21 R21
  iintro ⟨HO, U21⟩
  iapply (step_send m ρ K c _ (2, 2) (dev12_eq c) (sndS_eq 2 2).symm (rcvS_eq 2 2).symm _ rfl rfl) $$ HR HO U22 L22 R22
  iintro ⟨HO, U22⟩
  iapply (step_recv m ρ K c (2, 0) (rcvS_eq 2 0) [] (by decide) (slot_credit 2 1)) $$ HR Hlev HO [A20 C20]
  · unfold coming; isplitl [A20] <;> iassumption
  iintro ⟨HO, Z20, R20⟩
  simp only [k0_part11_eq_skeleton]; unfold k0_part11_skel
  simp only [Prog.lift, Prog.bind_op, Prog.bind_ret, Prog.pure_eq_ret]
  iapply (step_recv m ρ K c (2, 1) (rcvS_eq 2 1) [] (by decide) (slot_credit 2 2)) $$ HR Hlev HO [A21 C21]
  · unfold coming; isplitl [A21] <;> iassumption
  iintro ⟨HO, Z21, R21⟩
  iapply (step_recv m ρ K c (2, 2) (rcvS_eq 2 2) [] (by decide) (slot_credit 2 3)) $$ HR Hlev HO [A22 C22]
  · unfold coming; isplitl [A22] <;> iassumption
  iintro ⟨HO, Z22, R22⟩
  iapply (step_load c 2 0) $$ S20; iintro S20
  iapply (step_got m ρ c (2, 0)) $$ R20; iintro R20
  simp only [k0_part12_eq_skeleton]; unfold k0_part12_skel
  simp only [Prog.lift, Prog.bind_op, Prog.bind_ret, Prog.pure_eq_ret]
  iapply (step_got m ρ c (2, 1)) $$ R21; iintro R21
  iapply (step_got m ρ c (2, 2)) $$ R22; iintro R22
  iapply (wp_load 𝒱₀ (c : Thread nD τ) none Set.univ (m := (Memref.whole cc0_stg7_0)) (Finset.subset_univ _)) $$ X7; iintro X7
  iapply (wp_store 𝒱₀ (c : Thread nD τ) none Set.univ (m := (Memref.whole cc0_stg7_0)) (r := Rect.unit ![0, 0] ![128, 128] inb_S128x128_S128x128_0_0) (Mk := Finset.univ) (Finset.subset_univ _)) $$ X7; iintro X7
  iapply (step_sent m ρ K c (0, 0) (sndS_eq 0 0) (slot_credit 0 0)) $$ HR HO U00
  iintro ⟨HO, Y00, L00⟩
  simp only [k0_part13_eq_skeleton]; unfold k0_part13_skel
  simp only [Prog.lift, Prog.bind_op, Prog.bind_ret, Prog.pure_eq_ret]
  iapply (step_sent m ρ K c (0, 1) (sndS_eq 0 1) (slot_credit 0 0)) $$ HR HO U01
  iintro ⟨HO, Y01, L01⟩
  iapply (step_sent m ρ K c (0, 2) (sndS_eq 0 2) (slot_credit 0 0)) $$ HR HO U02
  iintro ⟨HO, Y02, L02⟩
  iapply (step_sent m ρ K c (1, 0) (sndS_eq 1 0) (slot_credit 1 0)) $$ HR HO U10
  iintro ⟨HO, Y10, L10⟩
  simp only [k0_part14_eq_skeleton]; unfold k0_part14_skel
  simp only [Prog.lift, Prog.bind_op, Prog.bind_ret, Prog.pure_eq_ret]
  iapply (step_sent m ρ K c (1, 1) (sndS_eq 1 1) (slot_credit 1 0)) $$ HR HO U11
  iintro ⟨HO, Y11, L11⟩
  iapply (step_sent m ρ K c (1, 2) (sndS_eq 1 2) (slot_credit 1 0)) $$ HR HO U12
  iintro ⟨HO, Y12, L12⟩
  iapply (step_sent m ρ K c (2, 0) (sndS_eq 2 0) (slot_credit 2 0)) $$ HR HO U20
  iintro ⟨HO, Y20, L20⟩
  iapply (step_sent m ρ K c (2, 1) (sndS_eq 2 1) (slot_credit 2 0)) $$ HR HO U21
  iintro ⟨HO, Y21, L21⟩
  iapply (step_sent m ρ K c (2, 2) (sndS_eq 2 2) (slot_credit 2 0)) $$ HR HO U22
  iintro ⟨HO, Y22, L22⟩
  ihave X7 := (Entails.of_eq (congrArg (fun v => stg c cc0_stg7_0 v) ((write7 _ _).trans (by rw [read6])))) $$ X7
  rw [wp_ret]
  imodintro
  iapply Hk
  unfold bodyPost Φ₁
  rw [bigSep_nine, bigSep_nine]
  isplitl [HzB Y00 Y01 Y02 Y10 Y11 Y12 Y20 Y21 Y22 Z00 Z01 Z02 Z10 Z11 Z12 Z20 Z21 Z22 S00 S10 S20 L00 L01 L02 L10 L11 L12 L20 L21 L22 R00 R01 R02 R10 R11 R12 R20 R21 R22]
  · isplitl [S00 S10 S20 L00 L01 L02 L10 L11 L12 L20 L21 L22 R00 R01 R02 R10 R11 R12 R20 R21 R22]
    · iapply (slots_back m ρ c)
      rw [bigSep_three, bigSep_nine]
      isplitl [S00 S10 S20 L00 L01 L02 L10 L11 L12 L20 L21 L22]
      · isplitl [S00 L00 L01 L02]
        · isplitl [S00]; · iexact S00
          isplitl [L00]; · iexact L00
          isplitl [L01] <;> iassumption
        isplitl [S10 L10 L11 L12]
        · isplitl [S10]; · iexact S10
          isplitl [L10]; · iexact L10
          isplitl [L11] <;> iassumption
        isplitl [S20]; · iexact S20
        isplitl [L20]; · iexact L20
        isplitl [L21] <;> iassumption
      isplitl [R00]; · iexact R00
      isplitl [R01]; · iexact R01
      isplitl [R02]; · iexact R02
      isplitl [R10]; · iexact R10
      isplitl [R11]; · iexact R11
      isplitl [R12]; · iexact R12
      isplitl [R20]; · iexact R20
      isplitl [R21]; · iexact R21
      iexact R22
    isplitl [HzB]; · iexact HzB
    isplitl [Y00 Y01 Y02 Y10 Y11 Y12 Y20 Y21 Y22]
    · isplitl [Y00]; · iexact Y00
      isplitl [Y01]; · iexact Y01
      isplitl [Y02]; · iexact Y02
      isplitl [Y10]; · iexact Y10
      isplitl [Y11]; · iexact Y11
      isplitl [Y12]; · iexact Y12
      isplitl [Y20]; · iexact Y20
      isplitl [Y21]; · iexact Y21
      iexact Y22
    isplitl [Z00]; · iexact Z00
    isplitl [Z01]; · iexact Z01
    isplitl [Z02]; · iexact Z02
    isplitl [Z10]; · iexact Z10
    isplitl [Z11]; · iexact Z11
    isplitl [Z12]; · iexact Z12
    isplitl [Z20]; · iexact Z20
    isplitl [Z21]; · iexact Z21
    iexact Z22
  isplitl [HO]; · iexact HO
  isplitl [X0]; · iexact X0
  isplitl [X1]; · iexact X1
  isplitl [X2]; · iexact X2
  isplitl [X3]; · iexact X3
  isplitl [X4]; · iexact X4
  isplitl [X5]; · iexact X5
  isplitl [X6]; · iexact X6
  iexact X7

end Cert.KernelIdeal.Mlp

end
-- ==== Proof.LaunchKernelIdeal.lean ====
/-
# The launch

The body's obligation to the pipeline, the exchange's ghost state minted and dealt to the devices that will use it, the
credit each device starts with, and the run of the whole program.
-/
module

public import proofs.«01_k».proof.Proof.BodyKernelIdeal
public import Idealize.ShloMosaic.Lib.Pipeline.Launch
public import Idealize.ShloMosaic.Lib.Pipeline.Kit
public import Idealize.ShloMosaic.Lib.Pipeline.CollectiveSegs
public import Idealize.ShloMosaic.Lib.Pipeline.Value

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body's obligation -/

omit [FloatOps F] in
theorem owns_staged (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer as the pipeline hands it over. -/
def held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem held_stg {c : Dev nD} {b : Ref sig .tc} {X Y : b.ty.Contents (Elt F)} (h : X = Y) : (held c b X : sProp 𝕄) ⊢ stg c b Y := by
  subst h; unfold held; iintro ⟨%f, %hf, H⟩; subst hf; iexact H
omit [FloatOps F] in
theorem stg_held {c : Dev nD} {b : Ref sig .tc} {X : b.ty.Contents (Elt F)} : (stg c b X : sProp 𝕄) ⊢ held c b X := by
  unfold held; iintro H; iexists X; isplitr; · (ipureintro; rfl)
  iexact H
omit [FloatOps F] in
theorem held_any {I : Type} {c : Dev nD} {b : Ref sig .tc} {X : I → b.ty.Contents (Elt F)} :
    iprop(∃ i, held c b (X i)) ⊢ (iprop(∃ f, stg c b f) : sProp 𝕄) := by
  iintro ⟨%i, H⟩; iexists (X i); iapply (held_stg rfl); iexact H
omit [FloatOps F] in
theorem held_all {I : Type} {c : Dev nD} {b : Ref sig .tc} {X : I → b.ty.Contents (Elt F)} {Y : b.ty.Contents (Elt F)} (h : ∀ i, X i = Y) :
    iprop(∃ i, held c b (X i)) ⊢ (stg c b Y : sProp 𝕄) := by
  iintro ⟨%i, H⟩; iapply (held_stg (h i)); iexact H

set_option maxRecDepth 4000 in
def given (c : Dev nD) : sProp 𝕄 :=
  iprop(Φ₀ m ρ c ∗ (dats m ρ 0 c).owesAt () t0_0.castSucc
    ∗ (∃ d, held c cc0_stg0_0 ((dats m ρ 0 c).before (0 : Fin 8) t0_0 d)) ∗ (∃ d, held c cc0_stg1_0 ((dats m ρ 0 c).before (1 : Fin 8) t0_0 d))
    ∗ (∃ d, held c cc0_stg2_0 ((dats m ρ 0 c).before (2 : Fin 8) t0_0 d)) ∗ (∃ d, held c cc0_stg3_0 ((dats m ρ 0 c).before (3 : Fin 8) t0_0 d))
    ∗ (∃ d, held c cc0_stg4_0 ((dats m ρ 0 c).before (4 : Fin 8) t0_0 d)) ∗ (∃ d, held c cc0_stg5_0 ((dats m ρ 0 c).before (5 : Fin 8) t0_0 d))
    ∗ (∃ d, held c cc0_stg6_0 ((dats m ρ 0 c).before (6 : Fin 8) t0_0 d)) ∗ (∃ d, held c cc0_stg7_0 ((dats m ρ 0 c).before (7 : Fin 8) t0_0 d)))

set_option maxRecDepth 4000 in
def taken (c : Dev nD) : sProp 𝕄 :=
  iprop(Φ₁ c ∗ (dats m ρ 0 c).owesAt () t0_0.succ
    ∗ held c cc0_stg0_0 (in0 m ρ c) ∗ held c cc0_stg1_0 (in1 m ρ c) ∗ held c cc0_stg2_0 (in2 m ρ c) ∗ held c cc0_stg3_0 (in3 m ρ c)
    ∗ held c cc0_stg4_0 (in4 m ρ c) ∗ held c cc0_stg5_0 (in5 m ρ c) ∗ held c cc0_stg6_0 (in6 m ρ c) ∗ held c cc0_stg7_0 (outAt m ρ c))

theorem owing_start (c : Dev nD) : (dats m ρ 0 c).owesAt () t0_0.castSucc ⊢ owing c (O₀ c) := by
  unfold Dat.owesAt Pipeline.owesWithin owing
  rw [show (dats m ρ 0 c).owed t0_0.castSucc = O₀ c from rfl]
  iintro ⟨%W, %hW, HO⟩; iexists W; iexact HO
theorem owing_end (c : Dev nD) : owing c 0 ⊢ (dats m ρ 0 c).owesAt () t0_0.succ := by
  unfold Dat.owesAt Pipeline.owesWithin owing
  rw [show (dats m ρ 0 c).owed t0_0.succ = 0 from rfl]
  iintro ⟨%W, HO⟩; iexists W; isplitr; · (ipureintro; exact fun _ _ => Or.inl trivial)
  iexact HO

theorem before0 (c : Dev nD) (d) : (dats m ρ 0 c).before (0 : Fin 8) t0_0 d = in0 m ρ c := by unfold Dat.before; rw [if_pos (fetch0_0 t0_0)]; rfl
theorem before1 (c : Dev nD) (d) : (dats m ρ 0 c).before (1 : Fin 8) t0_0 d = in1 m ρ c := by unfold Dat.before; rw [if_pos (fetch0_1 t0_0)]; rfl
theorem before2 (c : Dev nD) (d) : (dats m ρ 0 c).before (2 : Fin 8) t0_0 d = in2 m ρ c := by unfold Dat.before; rw [if_pos (fetch0_2 t0_0)]; rfl
theorem before3 (c : Dev nD) (d) : (dats m ρ 0 c).before (3 : Fin 8) t0_0 d = in3 m ρ c := by unfold Dat.before; rw [if_pos (fetch0_3 t0_0)]; rfl
theorem before4 (c : Dev nD) (d) : (dats m ρ 0 c).before (4 : Fin 8) t0_0 d = in4 m ρ c := by unfold Dat.before; rw [if_pos (fetch0_4 t0_0)]; rfl
theorem before5 (c : Dev nD) (d) : (dats m ρ 0 c).before (5 : Fin 8) t0_0 d = in5 m ρ c := by unfold Dat.before; rw [if_pos (fetch0_5 t0_0)]; rfl
theorem before6 (c : Dev nD) (d) : (dats m ρ 0 c).before (6 : Fin 8) t0_0 d = in6 m ρ c := by unfold Dat.before; rw [if_pos (fetch0_6 t0_0)]; rfl

omit [FloatOps F] in
theorem bigSep_each {I : Type} [Fintype I] {Φ Ψ : I → sProp 𝕄} (h : ∀ i, Φ i ⊢ Ψ i) : bigSep Finset.univ Φ ⊢ (bigSep Finset.univ Ψ : sProp 𝕄) :=
  bigSep_mono fun i _ => h i

theorem scratch_slots (c : Dev nD) :
    iprop(∃ f, (((c : Thread nD τ).loc cc0_scratch0) ↦{fullShare} f)) ⊢ (bigSep Finset.univ fun p : Fin 3 × Fin 4 => anySlot (F := F) c p.1 p.2 : sProp 𝕄) := by
  iintro ⟨%f, H⟩
  ihave H := (Entails.of_eq (slots_split c f)) $$ H
  iapply (bigSep_each (Φ := fun p : Fin 3 × Fin 4 => slotPts c p.1 p.2 fullShare f) fun p => by unfold anySlot; iintro H; iexists f; iexact H)
  iexact H

theorem given_body (c : Dev nD) : given m ρ c ⊢ iprop(∃ K, bodyPre m ρ K c) := by
  unfold given Φ₀ start
  iintro ⟨⟨⟨⟨%K, Hg⟩, HcB, HcR, Hlev⟩, Hs⟩, Ho, H0, H1, H2, H3, H4, H5, H6, H7⟩
  iexists K
  unfold bodyPre
  isplitl [Hg]; · iexact Hg
  isplitl [HcB]; · iexact HcB
  isplitl [HcR]; · iexact HcR
  isplitl [Hlev]; · iexact Hlev
  isplitl [Hs]; · iapply (scratch_slots c); iexact Hs
  isplitl [Ho]; · iapply (owing_start m ρ c); iexact Ho
  isplitl [H0]; · iapply (held_all (before0 m ρ c)); iexact H0
  isplitl [H1]; · iapply (held_all (before1 m ρ c)); iexact H1
  isplitl [H2]; · iapply (held_all (before2 m ρ c)); iexact H2
  isplitl [H3]; · iapply (held_all (before3 m ρ c)); iexact H3
  isplitl [H4]; · iapply (held_all (before4 m ρ c)); iexact H4
  isplitl [H5]; · iapply (held_all (before5 m ρ c)); iexact H5
  isplitl [H6]; · iapply (held_all (before6 m ρ c)); iexact H6
  iapply held_any; iexact H7

theorem post_taken (c : Dev nD) : bodyPost m ρ c ⊢ taken m ρ c := by
  unfold bodyPost taken
  iintro ⟨HΦ, Ho, H0, H1, H2, H3, H4, H5, H6, H7⟩
  isplitl [HΦ]; · iexact HΦ
  isplitl [Ho]; · iapply (owing_end m ρ c); iexact Ho
  isplitl [H0]; · iapply stg_held; iexact H0
  isplitl [H1]; · iapply stg_held; iexact H1
  isplitl [H2]; · iapply stg_held; iexact H2
  isplitl [H3]; · iapply stg_held; iexact H3
  isplitl [H4]; · iapply stg_held; iexact H4
  isplitl [H5]; · iapply stg_held; iexact H5
  isplitl [H6]; · iapply stg_held; iexact H6
  iapply stg_held; iexact H7

set_option maxRecDepth 4000 in
/-- The library's body obligation on device `c`. -/
theorem body_obligation (c : Dev nD) : BodyObligation (dats (F := F) m ρ 0 c) (defs₀ (F := F)) 𝒱₀ () Set.univ := fun t => by
  rw [show t = t0_0 from fin_N0 t]
  rw [bigSep_W0, bigSep_W0]
  simp only [owns_staged]
  show given m ρ c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_stg6_0) (Memref.isWhole_whole _) (Memref.whole cc0_stg7_0) (Memref.isWhole_whole _)
            (Memref.whole cc0_scratch0) (Memref.isWhole_whole _) cc0_scratch1 cc0_scratch2) (fun _ => taken m ρ c)
  refine (given_body m ρ c).trans ?_
  iintro ⟨%K, H⟩
  iapply (sound_body m ρ K c fun _ => taken m ρ c)
  isplitl [H]; · iexact H
  iintro H
  iapply (post_taken m ρ c); iexact H

/-! ## The launch -/

omit [FloatOps F] in
theorem bigSep_sum {A B : Type} [Fintype A] [Fintype B] (Φ : A ⊕ B → sProp 𝕄) :
    bigSep Finset.univ Φ = iprop((bigSep Finset.univ fun a => Φ (.inl a)) ∗ bigSep Finset.univ fun b => Φ (.inr b)) := bigSep_univ_sum Φ
omit [FloatOps F] in
theorem bigSep_cells (Φ : Cell → sProp 𝕄) :
    bigSep Finset.univ Φ = iprop(Φ bar ∗ (bigSep Finset.univ fun x => Φ (snd x)) ∗ bigSep Finset.univ fun x => Φ (rcv x)) := by
  rw [bigSep_sum, bigSep_sum, bigSep_univ_eq_bigSepL [()] (by decide) (by decide)]; rfl

/-- The kernel's own semaphores: the send and the receive cells. -/
abbrev osem : (Fin 3 × Fin 3) ⊕ (Fin 3 × Fin 3) → SemLoc sig := fun y => csem (.inr y)

theorem ownSemFacts : Pipeline.OwnSemFacts cfg0.spec osem := by decide

theorem share_eq (c : Dev nD) (w : Fin cfg0.W) : (dats m ρ 0 c).share w = fullShare := by unfold Dat.share; split <;> rfl

abbrev kcell (ck : Dev nD × Cell) : GSem nD τ sig := cell ck.1 ck.2
theorem cell_inj {a b : Dev nD} {x y : Cell} (h : cell a x = cell b y) : a = b ∧ x = y :=
  ⟨congrArg (fun g : GSem nD τ sig => g.1.1) h, csem_injective (congrArg Prod.snd h)⟩
theorem kcell_injective : Function.Injective (kcell : Dev nD × Cell → GSem nD τ sig) := fun _ _ h => Prod.ext (cell_inj h).1 (cell_inj h).2
def xCells : Finset (GSem nD τ sig) := Finset.univ.map ⟨kcell, kcell_injective⟩

/-- The duties of a device's own cells: three of its barrier, one of each of the others. -/
abbrev Duty : Type := Fin 3 ⊕ ((Fin 3 × Fin 3) ⊕ (Fin 3 × Fin 3))
abbrev tokOf (cj : Dev nD × Duty) : GSem nD τ sig × ℕ × Fin 3 := match cj.2 with
  | .inl j => (cell cj.1 bar, 0, j) | .inr y => (cell cj.1 (.inr y), 0, 0)
theorem tokOf_injective : Function.Injective (tokOf : Dev nD × Duty → GSem nD τ sig × ℕ × Fin 3) := by
  rintro ⟨c, j | y⟩ ⟨c', j' | y'⟩ h
  · have h1 := (cell_inj (congrArg Prod.fst h)).1
    have h2 : j = j' := congrArg (fun t : GSem nD τ sig × ℕ × Fin 3 => t.2.2) h
    rw [h2]; exact Prod.ext h1 rfl
  · exact absurd (cell_inj (congrArg Prod.fst h)).2 (by simp)
  · exact absurd (cell_inj (congrArg Prod.fst h)).2 (by simp)
  · have h1 := cell_inj (congrArg Prod.fst h)
    exact Prod.ext h1.1 (congrArg Sum.inr (Sum.inr.inj h1.2))
def xToks : Finset (GSem nD τ sig × ℕ × Fin 3) := Finset.univ.map ⟨tokOf, tokOf_injective⟩

def u₀ : UU :=
  (initOf (Pipeline.cells cfgs cellOf_inj) (Pipeline.launchToks cfgs cellOf_inj), initOf xCells xToks)

/-- The duty tokens of device `c`'s own cells; -/
def toks (c : Dev nD) : sProp 𝕄 :=
  iprop((bigSep Finset.univ fun j : Fin 3 => dutyTok ER (cell c bar) 0 j)
    ∗ (bigSep Finset.univ fun x : Fin 3 × Fin 3 => dutyTok ER (cell c (snd x)) 0 0)
    ∗ (bigSep Finset.univ fun x : Fin 3 × Fin 3 => dutyTok ER (cell c (rcv x)) 0 0))
/-- those of the duties it pays. -/
def payToks (c : Dev nD) : sProp 𝕄 :=
  iprop((bigSep Finset.univ fun j : Fin 3 => dutyTok ER (cell (nx c j) bar) 0 j.rev)
    ∗ (bigSep Finset.univ fun x : Fin 3 × Fin 3 => dutyTok ER (cell c (snd x)) 0 0)
    ∗ (bigSep Finset.univ fun x : Fin 3 × Fin 3 => dutyTok ER (cell (nx c x.2) (rcv x)) 0 0))

def G (c : Dev nD) : sProp 𝕄 :=
  iprop((bigSep Finset.univ fun k : Cell => roundState ER (ringRd m ρ) (kcell (c, k)) 0)
    ∗ (bigSep Finset.univ fun k : Cell => iprop(atPos ER (kcell (c, k)) 0 ∅ 0 ∗ reached ER (kcell (c, k)) 0)) ∗ toks c)
def G' (c : Dev nD) : sProp 𝕄 := iprop(∃ K, ghost m ρ K c)

theorem fund_x : BI.own (ER (initOf xCells xToks)) ⊢ (|==> bigSep Finset.univ (G m ρ) : sProp 𝕄) := by
  have hX (Φ : GSem nD τ sig → sProp 𝕄) : bigSep xCells Φ = bigSep Finset.univ fun c : Dev nD => bigSep Finset.univ fun k : Cell => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_univ_sum, bigSep_univ_sum]; rfl
  iintro HX
  imod (Rounds.fund ER (ringRd m ρ) xCells xToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (cell c bar) 0 := by
  unfold unscopedSems0; rw [bigSep_eq_bigSepL_of_eq [SemLoc.reg barS] (by decide) (by decide)]; rfl
theorem ownSems0_eq (c : Dev nD) : (Pipeline.ownSems0 (Ix := Unit) (Name := ℕ) (U := UU) (Lvl := ℕ) (Val := Elt F) (τ := τ) osem c : sProp 𝕄)
    = iprop((bigSep Finset.univ fun x : Fin 3 × Fin 3 => semVal (cell c (snd x)) 0) ∗ (bigSep Finset.univ fun x : Fin 3 × Fin 3 => semVal (cell c (rcv x)) 0)) := by
  unfold Pipeline.ownSems0; exact bigSep_sum _
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cell => semVal (kcell (c, k)) 0 : sProp 𝕄) := by
  rw [unscopedSems0_eq, bigSep_cells, ownSems0_eq]
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Cell => iprop(∃ κ : ℕ, cellInv ER (ringRd m ρ) κ (kcell (c, k))))
          ∗ (bigSep Finset.univ fun k : Cell => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Cell => semVal (kcell (c, k)) 0) ∗ bigSep Finset.univ fun k : Cell => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What stays with device `c`: its places, and the tokens of the duties it pays. -/
def linear (c : Dev nD) : sProp 𝕄 :=
  iprop((bigSep Finset.univ fun k : Cell => atPos ER (kcell (c, k)) 0 ∅ 0) ∗ payToks c)

theorem ghost_intro (K : Dev nD × Cell → ℕ) (c : Dev nD) : iprop(records m ρ K ∗ linear c) ⊢ G' m ρ c := by
  unfold linear payToks G' ghost unsent
  rw [bigSep_cells]
  simp only [bigSep_sep']
  iintro ⟨#HR, ⟨HaB, HaS, HaV⟩, Ht, HtS, HtV⟩
  iexists K
  isplitr; · iexact HR
  isplitl [HaB]; · iexact HaB
  isplitl [Ht]; · iexact Ht
  isplitl [HtS HtV HaS]
  · isplitl [HtS]; · iexact HtS
    isplitl [HtV] <;> iassumption
  iexact HaV

/-- The tokens dealt round the devices: a barrier's duty to the one that signals it, a receive's to the one that sends. -/
theorem toks_around : (bigSep Finset.univ fun c : Dev nD => (toks c : sProp 𝕄)) ⊢ bigSep Finset.univ fun c : Dev nD => payToks c := by
  have h1 : (bigSep Finset.univ fun c : Dev nD => bigSep Finset.univ fun j : Fin 3 => (dutyTok ER (cell c bar) 0 j : sProp 𝕄))
      = bigSep Finset.univ fun c : Dev nD => bigSep Finset.univ fun j : Fin 3 => dutyTok ER (cell (nx c j) bar) 0 j.rev := by
    rw [bigSep_univ_comm, bigSep_univ_comm (fun (c : Dev nD) (j : Fin 3) => (dutyTok ER (cell (nx c j) bar) 0 j.rev : sProp 𝕄)),
      bigSep_univ_equiv Fin.revPerm]
    exact bigSep_congr fun j _ => bigSep_univ_equiv (turn j) (fun c : Dev nD => (dutyTok ER (cell c bar) 0 j.rev : sProp 𝕄))
  have h2 : (bigSep Finset.univ fun c : Dev nD => bigSep Finset.univ fun x : Fin 3 × Fin 3 => (dutyTok ER (cell c (rcv x)) 0 0 : sProp 𝕄))
      = bigSep Finset.univ fun c : Dev nD => bigSep Finset.univ fun x : Fin 3 × Fin 3 => dutyTok ER (cell (nx c x.2) (rcv x)) 0 0 := by
    rw [bigSep_univ_comm, bigSep_univ_comm (fun (c : Dev nD) (x : Fin 3 × Fin 3) => (dutyTok ER (cell (nx c x.2) (rcv x)) 0 0 : sProp 𝕄))]
    exact bigSep_congr fun x _ => bigSep_univ_equiv (turn x.2) (fun c : Dev nD => (dutyTok ER (cell c (rcv x)) 0 0 : sProp 𝕄))
  unfold toks payToks
  rw [bigSep_sep', bigSep_sep', bigSep_sep', bigSep_sep', h1, h2]

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Cell => iprop(∃ κ : ℕ, cellInv ER (ringRd m ρ) κ (kcell (c, k))))
          ∗ (bigSep Finset.univ fun k : Cell => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Cell => iprop(∃ κ : ℕ, cellInv ER (ringRd m ρ) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄))]
  iintro ⟨HI, ⟨Hat, #HR⟩, Htok⟩
  ihave HK := (BI.bigSep_exists_pi Finset.univ (fun (ck : Dev nD × Cell) (κ : ℕ) => (cellInv ER (ringRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Cell => (atPos ER (kcell (c, k)) 0 ∅ 0 : sProp 𝕄)) payToks).symm))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

/-- A tally of one of the exchange's cells at another. -/
theorem tally_at (a b : Dev nD) (x y : Cell) (n : ℕ) :
    (tallyAt (cell a x) () n : CellTallies nD τ sig Unit) (cell b y) () = if a = b ∧ x = y then n else 0 := by
  rw [tallyAt_apply]
  by_cases h : a = b ∧ x = y
  · obtain ⟨rfl, rfl⟩ := h; rw [if_pos ⟨rfl, rfl⟩, if_pos ⟨rfl, rfl⟩]
  · rw [if_neg h, if_neg fun h' => h ⟨(cell_inj h'.1).1.symm, (cell_inj h'.1).2.symm⟩]

theorem owe_at_bar (d c : Dev nD) (xs : List (Fin 3 × Fin 3)) : owe d xs (cell c bar) () = 0 := by
  induction xs with
  | nil => rfl
  | cons x xs ih => rw [owe, Pi.add_apply, Finsupp.add_apply, ih, tally_at, if_neg (by simp)]
theorem owe_at_rcv (d c : Dev nD) (x : Fin 3 × Fin 3) (xs : List (Fin 3 × Fin 3)) :
    owe d xs (cell c (rcv x)) () = if nx d x.2 = c then xs.count x * N else 0 := by
  induction xs with
  | nil => rw [owe, List.count_nil, Nat.zero_mul, ite_self]; rfl
  | cons y xs ih =>
    rw [owe, Pi.add_apply, Finsupp.add_apply, ih, tally_at, List.count_cons]
    by_cases hy : y = x
    · subst hy
      by_cases hc : nx d y.2 = c
      · rw [if_pos hc, if_pos ⟨hc, rfl⟩, if_pos hc]; simp [Nat.add_mul]
      · rw [if_neg hc, if_neg fun h => hc h.1, if_neg hc]
    · rw [if_neg (fun h : _ ∧ _ => hy (by simpa using h.2))]; simp [hy]

theorem sum_turn (j : Fin 3) (c : Dev nD) (n : ℕ) : (∑ d : Dev nD, if nx d j = c then n else 0) = n := by
  rw [Fintype.sum_equiv (turn j) (fun d => if nx d j = c then n else 0) (fun d => if d = c then n else 0) fun _ => rfl]
  rw [Finset.sum_ite_eq' Finset.univ c fun _ => n, if_pos (Finset.mem_univ _)]

theorem launch_bar (c : Dev nD) :
    tallyOn (cell c bar) (launchCredit (Pipeline.owing O₀) 0 (cell c bar)) = (tallyAt (cell c bar) () 3 : CellTallies nD τ sig Unit) := by
  unfold tallyAt; refine congrArg _ (Finsupp.ext fun u => ?_); cases u
  have h (d : Dev nD) : O₀ d (cell c bar) () = (if nx d 2 = c then 1 else 0) + (if nx d 1 = c then 1 else 0) + (if nx d 0 = c then 1 else 0) := by
    unfold O₀
    simp only [Pi.add_apply, Finsupp.add_apply, owe_at_bar, tally_at, and_true, Nat.zero_add]
  rw [Pipeline.launchCredit_owing, Finsupp.single_eq_same, Finset.sum_congr rfl fun d _ => h d, Finset.sum_add_distrib, Finset.sum_add_distrib,
    sum_turn, sum_turn, sum_turn]

theorem launch_rcv (c : Dev nD) (x : Fin 3 × Fin 3) :
    tallyOn (cell c (rcv x)) (launchCredit (Pipeline.owing O₀) 0 (cell c (rcv x))) = (tallyAt (cell c (rcv x)) () N : CellTallies nD τ sig Unit) := by
  unfold tallyAt; refine congrArg _ (Finsupp.ext fun u => ?_); cases u
  have hx : xfers0.count x = 1 := by revert x; decide
  have h (d : Dev nD) : O₀ d (cell c (rcv x)) () = if nx d x.2 = c then N else 0 := by
    unfold O₀
    have hb (j : Fin 3) : (tallyAt (cell (nx d j) bar) () 1 : CellTallies nD τ sig Unit) (cell c (rcv x)) () = 0 := by
      rw [tally_at, if_neg (by simp)]
    rw [Pi.add_apply, Finsupp.add_apply, Pi.add_apply, Finsupp.add_apply, Pi.add_apply, Finsupp.add_apply, owe_at_rcv, hb, hb, hb, hx, Nat.one_mul]
    rfl
  rw [Pipeline.launchCredit_owing, Finsupp.single_eq_same, Finset.sum_congr rfl fun d _ => h d, sum_turn]

theorem creds (c : Dev nD) :
    (Pipeline.launchCred O₀ c : sProp 𝕄) ⊢ iprop(cred (tallyAt (cell c bar) () 3) ∗ (bigSep Finset.univ fun x : Fin 3 × Fin 3 => cred (tallyAt (cell c (rcv x)) () N))) := by
  classical
  have h : (Pipeline.launchCred O₀ c : sProp 𝕄) ⊢ bigSep Finset.univ fun k : Cell => cred (tallyOn (cell c k) (launchCredit (Pipeline.owing O₀) 0 (cell c k))) := by
    unfold Pipeline.launchCred
    refine (bigSep_subset (Finset.subset_univ (Finset.univ.map ⟨csem, csem_injective⟩))).trans ?_
    rw [bigSep_map]; rfl
  rw [bigSep_cells, launch_bar] at h
  have hV := fun x => Entails.of_eq (PROP := sProp 𝕄) (congrArg cred (launch_rcv c x))
  refine h.trans ?_
  show iprop(_ ∗ _ ∗ _) ⊢ iprop(_ ∗ _)
  iintro ⟨HB, -, HV⟩
  isplitl [HB]; · iexact HB
  iapply (bigSep_each hV); iexact HV

/-! ### The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨Hr, HzB, HzS, HzV⟩
  isplitl [HzB]; · iexact HzB
  isplitl [HzS HzV]
  · isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> (revert c; decide)) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, on four devices and for any float values: every weakly fair execution terminates,
    each array then holds `finalA`, and every semaphore counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_x m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ### What the arrays hold -/

omit [FloatOps F] in
theorem in0_eq (c : Dev nD) : in0 m ρ c = m ((c : Thread nD τ).loc main_arg0) :=
  Memref.read_access_unit_zero (Elt F) main_arg0 (funext fun a => by fin_cases a <;> decide) (fun a => by fin_cases a <;> decide) _
omit [FloatOps F] in
theorem in1_eq (c : Dev nD) : in1 m ρ c = m ((c : Thread nD τ).loc main_arg1) :=
  Memref.read_access_unit_zero (Elt F) main_arg1 (funext fun a => by fin_cases a <;> decide) (fun a => by fin_cases a <;> decide) _
omit [FloatOps F] in
theorem in2_eq (c : Dev nD) : in2 m ρ c = m ((c : Thread nD τ).loc main_arg4) :=
  Memref.read_access_unit_zero (Elt F) main_arg4 (funext fun a => by fin_cases a <;> decide) (fun a => by fin_cases a <;> decide) _
omit [FloatOps F] in
theorem in3_eq (c : Dev nD) : in3 m ρ c = m ((c : Thread nD τ).loc main_arg2) :=
  Memref.read_access_unit_zero (Elt F) main_arg2 (funext fun a => by fin_cases a <;> decide) (fun a => by fin_cases a <;> decide) _
omit [FloatOps F] in
theorem in4_eq (c : Dev nD) : in4 m ρ c = m ((c : Thread nD τ).loc main_arg5) :=
  Memref.read_access_unit_zero (Elt F) main_arg5 (funext fun a => by fin_cases a <;> decide) (fun a => by fin_cases a <;> decide) _
omit [FloatOps F] in
theorem in5_eq (c : Dev nD) : in5 m ρ c = m ((c : Thread nD τ).loc main_arg3) :=
  Memref.read_access_unit_zero (Elt F) main_arg3 (funext fun a => by fin_cases a <;> decide) (fun a => by fin_cases a <;> decide) _
omit [FloatOps F] in
theorem in6_eq (c : Dev nD) : in6 m ρ c = m ((c : Thread nD τ).loc main_arg6) :=
  Memref.read_access_unit_zero (Elt F) main_arg6 (funext fun a => by fin_cases a <;> decide) (fun a => by fin_cases a <;> decide) _

/-- The output's one block is the array, so the array ends as the body left its staging buffer. -/
theorem final_out (c : Dev nD) : (dats m ρ 0 c).arrAt (7 : Fin 8) cfg0.N = outAt m ρ c :=
  (dats m ρ 0 c).arrAt_eq_of_cover (7 : Fin 8) (outAt m ρ c)
    (fun t _ => by
      rw [show t = t0_0 from fin_N0 t]
      exact (Memref.read_access_unit_zero (Elt F) main_v1 (funext fun a => by fin_cases a <;> decide) (fun a => by fin_cases a <;> decide) (outAt m ρ c)).symm)
    fun i => ⟨t0_0, flush0_7 t0_0, by
      show i ∈ ((View.whole main_v1).slice (win0_7.rect t0_0)).set
      rw [View.set_slice_whole, Rect.mem_set_unit]
      intro a
      fin_cases a
      · exact ⟨Nat.zero_le _, (i 0).isLt⟩
      · exact ⟨Nat.zero_le _, (i 1).isLt⟩⟩

/-- The run, read: each device's output at `outAt`, the arguments unchanged, every semaphore counter zero. -/
theorem run_values : θ_run defs (onTc (τ := τ) (main (F := F))) ⟨m, fun _ => 0, ρ⟩ (fun r => (∀ c : Dev nD,
      r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6))
    ∧ r.2.sem = fun _ => 0) :=
  (θ_run defs _ _).mono (fun _ h => ⟨fun c =>
      ⟨(h.1 c (7 : Fin 8)).trans (final_out m ρ c),
       (h.1 c (0 : Fin 8)).trans ((dats m ρ 0 c).arrAt_in (0 : Fin 8) rfl _),
       (h.1 c (1 : Fin 8)).trans ((dats m ρ 0 c).arrAt_in (1 : Fin 8) rfl _),
       (h.1 c (3 : Fin 8)).trans ((dats m ρ 0 c).arrAt_in (3 : Fin 8) rfl _),
       (h.1 c (5 : Fin 8)).trans ((dats m ρ 0 c).arrAt_in (5 : Fin 8) rfl _),
       (h.1 c (2 : Fin 8)).trans ((dats m ρ 0 c).arrAt_in (2 : Fin 8) rfl _),
       (h.1 c (4 : Fin 8)).trans ((dats m ρ 0 c).arrAt_in (4 : Fin 8) rfl _),
       (h.1 c (6 : Fin 8)).trans ((dats m ρ 0 c).arrAt_in (6 : Fin 8) rfl _)⟩, h.2⟩) (run_main m ρ)

end Cert.KernelIdeal.Mlp

end
-- ==== Proof.Algebra.lean ====
/-
# The network's mathematics over the extended reals

Products of matrices, cut into four blocks along the contracted axis, add up to the whole product; and where every factor
is finite, a product may be taken with the next one first. That is what lets the kernel multiply each device's blocks of
two layers' weights before the activations arrive.
-/
module

public import Mathlib.Data.EReal.Operations
public import Mathlib.Algebra.BigOperators.Fin
public import Mathlib.Data.EReal.Basic

@[expose] public section

noncomputable section

namespace Cert.Math

/-- A matrix of extended reals. -/
abbrev Mat (a b : ℕ) : Type := Fin a → Fin b → EReal

variable {a b c n : ℕ}

def prod (A : Mat a b) (B : Mat b c) : Mat a c := fun i j => ∑ k, A i k * B k j
def relu (A : Mat a b) : Mat a b := fun i j => max (A i j) 0

theorem spot_lt (d : Fin 4) (k : Fin n) : d.val * n + k.val < 4 * n := by
  have := d.isLt; have := k.isLt; have := Nat.mul_le_mul_right n (Nat.le_of_lt_succ d.isLt : d.val ≤ 3); omega
/-- Position `k` of block `d`. -/
def spot (d : Fin 4) (k : Fin n) : Fin (4 * n) := ⟨d.val * n + k.val, spot_lt d k⟩
/-- A block of columns, and one of rows. -/
def cols (d : Fin 4) (A : Mat a (4 * n)) : Mat a n := fun i k => A i (spot d k)
def rows (d : Fin 4) (B : Mat (4 * n) c) : Mat n c := fun k j => B (spot d k) j

theorem sum_blocks (f : Fin (4 * n) → EReal) : ∑ d : Fin 4, ∑ k : Fin n, f (spot d k) = ∑ k, f k := by
  rw [← Fintype.sum_prod_type']
  refine Fintype.sum_equiv finProdFinEquiv _ _ fun x => congrArg f (Fin.ext ?_)
  show x.1.val * n + x.2.val = x.2.val + n * x.1.val
  rw [Nat.mul_comm, Nat.add_comm]

theorem sum_prod_blocks (A : Mat a (4 * n)) (B : Mat (4 * n) c) (i : Fin a) (j : Fin c) :
    ∑ d : Fin 4, prod (cols d A) (rows d B) i j = prod A B i j := sum_blocks fun k => A i k * B k j

/-- Every entry is finite. -/
def Finite (A : Mat a b) : Prop := ∃ r : Fin a → Fin b → ℝ, A = fun i j => (r i j : EReal)

theorem coe_sum {ι : Type} (s : Finset ι) (f : ι → ℝ) : ∑ k ∈ s, (f k : EReal) = ((∑ k ∈ s, f k : ℝ) : EReal) := by
  classical
  induction s using Finset.induction_on with
  | empty => simp
  | insert x s hx ih => rw [Finset.sum_insert hx, Finset.sum_insert hx, ih, EReal.coe_add]

theorem prod_coe (r : Fin a → Fin b → ℝ) (s : Fin b → Fin c → ℝ) :
    prod (fun i j => (r i j : EReal)) (fun i j => (s i j : EReal)) = fun i j => ((∑ k, r i k * s k j : ℝ) : EReal) := by
  funext i j
  unfold prod
  rw [← coe_sum]
  exact Finset.sum_congr rfl fun k _ => (EReal.coe_mul _ _).symm

theorem Finite.prod {A : Mat a b} {B : Mat b c} (hA : Finite A) (hB : Finite B) : Finite (prod A B) := by
  obtain ⟨r, rfl⟩ := hA; obtain ⟨s, rfl⟩ := hB
  exact ⟨_, prod_coe r s⟩
theorem Finite.relu {A : Mat a b} (hA : Finite A) : Finite (relu A) := by
  obtain ⟨r, rfl⟩ := hA
  exact ⟨fun i j => max (r i j) 0, by funext i j; exact (EReal.coe_strictMono.monotone.map_max (a := r i j) (b := 0)).symm⟩
theorem Finite.cols {A : Mat a (4 * n)} (hA : Finite A) (d : Fin 4) : Finite (cols d A) := by
  obtain ⟨r, rfl⟩ := hA; exact ⟨fun i k => r i (spot d k), rfl⟩
theorem Finite.rows {A : Mat (4 * n) c} (hA : Finite A) (d : Fin 4) : Finite (rows d A) := by
  obtain ⟨r, rfl⟩ := hA; exact ⟨fun k j => r (spot d k) j, rfl⟩

theorem exists_spot (x : Fin (4 * n)) : ∃ (d : Fin 4) (k : Fin n), spot d k = x :=
  ⟨(finProdFinEquiv.symm x).1, (finProdFinEquiv.symm x).2, (Fin.ext ((Nat.add_comm _ _).trans (congrArg _ (Nat.mul_comm _ _)))).trans
    (finProdFinEquiv.apply_symm_apply x)⟩

theorem finite_iff {A : Mat a b} : Finite A ↔ ∀ i j, ∃ r : ℝ, A i j = r :=
  ⟨fun ⟨r, h⟩ i j => ⟨r i j, by rw [h]⟩, fun h => ⟨fun i j => (h i j).choose, funext fun i => funext fun j => (h i j).choose_spec⟩⟩
theorem finite_of_cols {A : Mat a (4 * n)} (h : ∀ d, Finite (cols d A)) : Finite A := finite_iff.2 fun i j => by
  obtain ⟨d, k, rfl⟩ := exists_spot j; exact finite_iff.1 (h d) i k
theorem finite_of_rows {A : Mat (4 * n) c} (h : ∀ d, Finite (rows d A)) : Finite A := finite_iff.2 fun i j => by
  obtain ⟨d, k, rfl⟩ := exists_spot i; exact finite_iff.1 (h d) k j

/-- Finite matrices multiply associatively. (Infinite ones need not: a product does not distribute over `∞ − ∞`.) -/
theorem prod_assoc {A : Mat a b} {B : Mat b c} {C : Mat c n} (hA : Finite A) (hB : Finite B) (hC : Finite C) :
    prod (prod A B) C = prod A (prod B C) := by
  obtain ⟨r, rfl⟩ := hA; obtain ⟨s, rfl⟩ := hB; obtain ⟨t, rfl⟩ := hC
  rw [prod_coe, prod_coe, prod_coe, prod_coe]
  funext i j
  congr 1
  simp only [Finset.sum_mul, Finset.mul_sum]
  rw [Finset.sum_comm]
  exact Finset.sum_congr rfl fun x _ => Finset.sum_congr rfl fun y _ => mul_assoc _ _ _

/-- One layer's output through the next layer's input weights, from the devices' products of their blocks of the two. -/
theorem sum_prod_fused {h : Mat a b} {O : Mat b (4 * n)} {I : Mat (4 * n) c} (hh : Finite h) (hO : Finite O) (hI : Finite I)
    (i : Fin a) (j : Fin c) : ∑ d : Fin 4, prod h (prod (cols d O) (rows d I)) i j = prod (prod h O) I i j := by
  rw [← sum_prod_blocks]
  exact Finset.sum_congr rfl fun d _ => congrFun (congrFun (prod_assoc hh (hO.cols d) (hI.rows d)).symm i) j

/-! ## The network

Three layers: the rectified hidden values of each, and the output.
-/

section Network
variable (X : Mat 128 (4 * 128)) (I0 I1 I2 : Mat (4 * 128) 256) (O0 O1 O2 : Mat 256 (4 * 128))

def hid0 : Mat 128 256 := relu (prod X I0)
def hid1 : Mat 128 256 := relu (prod (prod (hid0 X I0) O0) I1)
def hid2 : Mat 128 256 := relu (prod (prod (hid1 X I0 I1 O0) O1) I2)
def net : Mat 128 (4 * 128) := prod (hid2 X I0 I1 I2 O0 O1) O2

end Network

end Cert.Math

end
-- ==== Proof.Payloads.lean ====
/-
# What the kernel and the reference compute, as matrices

Each value the kernel stores, and the reference's result, read at an index over the extended reals; and the precondition,
read as finiteness.
-/
module

public import proofs.«01_k».proof.Proof.SchedKernelIdeal
public import proofs.«01_k».proof.Proof.Algebra
public import proofs.«01_k».proof.Proof.Gen.Pre_finite_KernelIdeal
public import proofs.«01_k».proof.Proof.Gen.ReferenceIdeal
public import Idealize.ShloMosaic.Lib.Pointwise
public import Idealize.ShloMosaic.Lib.ReduceAll
public import Idealize.ShloMosaic.PureOps.Ideal.Laws

@[expose] public section

noncomputable section

namespace Cert.Math

open Idealize.ShloMosaic

/-- An array of two axes as a matrix, and one of four whose first two have length one. -/
def mat {a b : ℕ} (v : (⟨2, ![a, b]⟩ : Shape).Idx → EReal) : Mat a b := fun i j => v (ix2 i j)
def mat4 {a b : ℕ} (v : (⟨4, ![1, 1, a, b]⟩ : Shape).Idx → EReal) : Mat a b := fun i j => v (ix4 0 0 i j)

theorem mat_injective {a b : ℕ} {v w : (⟨2, ![a, b]⟩ : Shape).Idx → EReal} (h : mat v = mat w) : v = w := by
  funext i
  have e : i = ix2 (i 0) (i 1) := by funext x; fin_cases x <;> rfl
  rw [e]; exact congrFun (congrFun h (i 0)) (i 1)

/-- The rectified sum of four matrices. -/
def relu4 {a b : ℕ} (A B C D : Mat a b) : Mat a b := relu fun i j => A i j + B i j + C i j + D i j

/-! ## The kernel's payloads -/

section Kernel
open Cert.KernelIdeal Cert.KernelIdeal.Gen

theorem pay1 (X : Vec Ideal S128x128 .bf16) (I : Vec Ideal S128x256 .bf16) : mat4 (k0_pay1 X I) = prod (mat X) (mat I) := by
  funext i j
  unfold mat4 prod mat
  pointwise [k0_pay1]
theorem pay2 (O : Vec Ideal S256x128 .bf16) (I : Vec Ideal S128x256 .bf16) : mat (k0_pay2 O I) = prod (mat O) (mat I) := by
  funext i j
  unfold prod mat
  pointwise [k0_pay2]
theorem pay3 (O : Vec Ideal S256x128 .bf16) (I : Vec Ideal S128x256 .bf16) : mat (k0_pay3 O I) = prod (mat O) (mat I) := pay2 O I
theorem pay5 (W : FVec Ideal S256x256 .bf16) (a b c d : Vec Ideal S1x1x128x256 .bf16) :
    mat4 (k0_pay5 W a b c d) = prod (relu4 (mat4 a) (mat4 b) (mat4 c) (mat4 d)) (mat W) := by
  funext i j
  unfold relu4 mat4 prod mat relu
  pointwise [k0_pay5]
theorem pay67 (W : FVec Ideal S256x256 .bf16) (a b c d : Vec Ideal S1x1x128x256 .bf16) :
    mat4 (k0_pay7 (k0_pay6 W a b c d)) = prod (relu4 (mat4 a) (mat4 b) (mat4 c) (mat4 d)) (mat W) := pay5 W a b c d
theorem pay489 (O : FVec Ideal S256x128 .bf16) (a b c d : Vec Ideal S1x1x128x256 .bf16) :
    mat (k0_pay9 (k0_pay4 O) (k0_pay8 a b) c d) = prod (relu4 (mat4 a) (mat4 b) (mat4 c) (mat4 d)) (mat O) := by
  funext i j
  unfold relu4 mat4 prod mat relu
  pointwise [k0_pay9, k0_pay8, k0_pay4]

end Kernel

/-! ## The reference -/

section Reference
open Cert.ReferenceIdeal Cert.ReferenceIdeal.Gen

/-- The reference's step into a layer, and out of one. -/
def layerIn (X : FVec Ideal S128x512 .bf16) (I : FVec Ideal S512x256 .bf16) : FVec Ideal S128x256 .bf16 :=
  maximumf (truncf .bf16 (Host.dotGeneral dot_S128x512_S512x256_S128x256_1_0_0_1_n_n none X I : FVec Ideal S128x256 .f32) Facts₀.bitsLt_bf16_f32)
    (broadcastInDim S128x256 ![] Facts₀.bcast_S_S128x256 (constant S_ .bf16 0x0000#16))
def layerOut (h : FVec Ideal S128x256 .bf16) (O : FVec Ideal S256x512 .bf16) : FVec Ideal S128x512 .bf16 :=
  truncf .bf16 (Host.dotGeneral dot_S128x256_S256x512_S128x512_1_0_0_1_n_n none h O : FVec Ideal S128x512 .f32) Facts₀.bitsLt_bf16_f32

theorem layerIn_mat (X : FVec Ideal S128x512 .bf16) (I : FVec Ideal S512x256 .bf16) : mat (layerIn X I) = relu (prod (mat X) (mat I)) := by
  funext i j
  unfold relu prod mat
  pointwise [layerIn]
theorem layerOut_mat (h : FVec Ideal S128x256 .bf16) (O : FVec Ideal S256x512 .bf16) : mat (layerOut h O) = prod (mat h) (mat O) := by
  funext i j
  unfold prod mat
  pointwise [layerOut]

/-- The reference's result, of its arguments. -/
def refOut (x : FVec Ideal S128x512 .bf16) (i0 i1 i2 : FVec Ideal S512x256 .bf16) (o0 o1 o2 : FVec Ideal S256x512 .bf16) : FVec Ideal S128x512 .f32 :=
  extf .f32 (layerOut (layerIn (layerOut (layerIn (layerOut (layerIn x i0) o0) i1) o1) i2) o2) Facts₀.bitsLt_bf16_f32

theorem refOut_mat (x : FVec Ideal S128x512 .bf16) (i0 i1 i2 : FVec Ideal S512x256 .bf16) (o0 o1 o2 : FVec Ideal S256x512 .bf16) :
    mat (refOut x i0 i1 i2 o0 o1 o2) = net (mat x) (mat i0) (mat i1) (mat i2) (mat o0) (mat o1) (mat o2) := by
  show mat (layerOut (layerIn (layerOut (layerIn (layerOut (layerIn x i0) o0) i1) o1) i2) o2) = _
  rw [layerOut_mat, layerIn_mat, layerOut_mat, layerIn_mat, layerOut_mat, layerIn_mat]; rfl

end Reference

/-! ## The precondition -/

theorem inf_eq : (Ideal.ofBits .bf16 0x7F80#16 : EReal) = ⊤ := by simp [Ideal.ofBits, Ideal.ieee]

theorem finite_of_abs {x : EReal} (h : max x (-x) < ⊤) : ∃ r : ℝ, x = r := by
  induction x with
  | bot => simp at h
  | top => simp at h
  | coe r => exact ⟨r, rfl⟩

section Precondition
open Cert.Pre_finite_KernelIdeal

/-- An array whose `all (abs · < inf)` is one is a finite matrix. -/
theorem finite_of_all {a b : ℕ} (v : FVec Ideal ⟨2, ![a, b]⟩ .bf16) (hb) (axes) (hr : (⟨2, ![a, b]⟩ : Shape).ReducesTo axes S_) (hs)
    (h : Host.reduce IntOp.andi (cmpf .olt (Host.absf v) (broadcastInDim ⟨2, ![a, b]⟩ ![] hb (constant S_ .bf16 0x7F80#16))) (constantI S_ 1 1#1) hr hs = fun _ => 1#1) :
    Finite (mat v) := by
  haveI : Subsingleton S_.Idx := ⟨fun x y => funext fun a => a.elim0⟩
  have hx (i : Fin a) (j : Fin b) : ∃ r : ℝ, mat v i j = r := by
    have h1 := Host.reduce_andi_all _ _ hr hs (fun a => a.elim0) (congrFun h _) (ix2 i j)
    apply finite_of_abs
    unfold mat
    change BitVec.ofBool (decide (max (v (ix2 i j)) (-v (ix2 i j)) < Ideal.ofBits .bf16 0x7F80#16)) = 1#1 at h1
    rw [inf_eq] at h1
    by_contra hc
    rw [decide_eq_false hc] at h1
    exact absurd h1 (by decide)
  exact finite_iff.2 hx

theorem finite_args (x : FVec Ideal S128x128 .bf16) (w0 w1 w2 : FVec Ideal S128x256 .bf16) (o0 o1 o2 : FVec Ideal S256x128 .bf16)
    (h : fn (F := Ideal) x w0 w1 w2 o0 o1 o2 = fun _ => 1#1) :
    Finite (mat x) ∧ Finite (mat w0) ∧ Finite (mat w1) ∧ Finite (mat w2) ∧ Finite (mat o0) ∧ Finite (mat o1) := by
  haveI : Nonempty S_.Idx := ⟨fun a => a.elim0⟩
  have hand {p q : IVec S_ 1} (e : andi p q = fun _ => 1#1) : p = (fun _ => 1#1) ∧ q = (fun _ => 1#1) :=
    ⟨funext fun i => (IntOp.andi_eq_one.1 (congrFun e i)).1, funext fun i => (IntOp.andi_eq_one.1 (congrFun e i)).2⟩
  unfold fn fn_part1 at h
  dsimp only at h
  obtain ⟨h, h5⟩ := hand h
  obtain ⟨h, h4⟩ := hand h
  obtain ⟨h, h3⟩ := hand h
  obtain ⟨h, h2⟩ := hand h
  obtain ⟨h0, h1⟩ := hand h
  exact ⟨finite_of_all _ _ _ _ _ h0, finite_of_all _ _ _ _ _ h1, finite_of_all _ _ _ _ _ h2, finite_of_all _ _ _ _ _ h3, finite_of_all _ _ _ _ _ h4,
    finite_of_all _ _ _ _ _ h5⟩

end Precondition

end Cert.Math

end
-- ==== Proof.Value.lean ====
/-
# The kernel's result is the reference's

A device's partial products, summed over the devices, are the network's layers; so what a device ends with is its block
of columns of the network's output, which is what the reference computes.
-/
module

public import proofs.«01_k».proof.Defs
public import proofs.«01_k».proof.Proof.LaunchKernelIdeal
public import proofs.«01_k».proof.Proof.Payloads
public import proofs.«01_k».proof.Proof.Gen.ReferenceIdeal.Run

@[expose] public section

noncomputable section

namespace Cert.Math

open Idealize.ShloMosaic Idealize.SL.Sem Cert.KernelIdeal Cert.KernelIdeal.Gen Cert.KernelIdeal.Mlp

/-! ## Blocks of arrays as blocks of matrices -/

section Blocks
variable {a b n : ℕ} (c : Fin 4)

theorem mat_cols (v : (⟨2, ![a, 4 * n]⟩ : Shape).Idx → EReal) (h : Layout.Tiles ⟨2, ![a, n]⟩ ⟨2, ![a, 4 * n]⟩ 1 4) :
    mat (Layout.block ⟨2, ![a, n]⟩ ⟨2, ![a, 4 * n]⟩ 1 4 c v h) = cols c (mat v) := by
  funext i j
  refine congrArg v (funext fun x => ?_)
  fin_cases x <;> rfl
theorem mat_rows (v : (⟨2, ![4 * n, b]⟩ : Shape).Idx → EReal) (h : Layout.Tiles ⟨2, ![n, b]⟩ ⟨2, ![4 * n, b]⟩ 0 4) :
    mat (Layout.block ⟨2, ![n, b]⟩ ⟨2, ![4 * n, b]⟩ 0 4 c v h) = rows c (mat v) := by
  funext i j
  refine congrArg v (funext fun x => ?_)
  fin_cases x <;> rfl

end Blocks

/-! ## The kernel -/

/-- A device's own term and the three it receives are everybody's. -/
theorem around (f : Dev nD → EReal) (c : Dev nD) : f c + f (fr c 0) + f (fr c 1) + f (fr c 2) = ∑ d : Fin 4, f d := by
  rw [Fin.sum_univ_four]
  fin_cases c
  · show f 0 + f 3 + f 2 + f 1 = _; ac_rfl
  · show f 1 + f 0 + f 3 + f 2 = _; ac_rfl
  · show f 2 + f 1 + f 0 + f 3 = _; ac_rfl
  · show f 3 + f 2 + f 1 + f 0 = _; ac_rfl

theorem relu4_around {a b : ℕ} (P : Dev nD → Mat a b) (c : Dev nD) :
    relu4 (P c) (P (fr c 0)) (P (fr c 1)) (P (fr c 2)) = relu fun i j => ∑ d : Fin 4, P d i j :=
  congrArg relu (funext fun i => funext fun j => around (fun d => P d i j) c)

section Kernel
variable (m : (ℓ : Loc nD τ sig) → Buf (Elt Ideal) ℓ) (ρ : Dev nD → PrngReg)
variable {X : Mat 128 (4 * 128)} {I0 I1 I2 : Mat (4 * 128) 256} {O0 O1 O2 : Mat 256 (4 * 128)}

/-- The devices' blocks are blocks of whole matrices, all finite but the last layer's output weights. -/
structure Holds (X : Mat 128 (4 * 128)) (I0 I1 I2 : Mat (4 * 128) 256) (O0 O1 O2 : Mat 256 (4 * 128)) : Prop where
  x (c : Dev nD) : mat (in0 m ρ c) = cols c X
  i0 (c : Dev nD) : mat (in1 m ρ c) = rows c I0
  o0 (c : Dev nD) : mat (in2 m ρ c) = cols c O0
  i1 (c : Dev nD) : mat (in3 m ρ c) = rows c I1
  o1 (c : Dev nD) : mat (in4 m ρ c) = cols c O1
  i2 (c : Dev nD) : mat (in5 m ρ c) = rows c I2
  o2 (c : Dev nD) : mat (in6 m ρ c) = cols c O2
  fx : Finite X
  fi0 : Finite I0
  fi1 : Finite I1
  fi2 : Finite I2
  fo0 : Finite O0
  fo1 : Finite O1

variable {m ρ} (H : Holds m ρ X I0 I1 I2 O0 O1 O2)
include H

theorem part0_mat (c : Dev nD) : mat4 (part0 m ρ c) = prod (cols c X) (rows c I0) := by
  rw [part0, pay1, H.x, H.i0]
theorem sum_part0 (c : Dev nD) :
    relu4 (mat4 (part0 m ρ c)) (mat4 (part0 m ρ (fr c 0))) (mat4 (part0 m ρ (fr c 1))) (mat4 (part0 m ρ (fr c 2))) = hid0 X I0 := by
  refine (relu4_around (fun d => mat4 (part0 m ρ d)) c).trans (congrArg relu (funext fun i => funext fun j => ?_))
  simp only [part0_mat H]
  exact sum_prod_blocks X I0 i j
theorem finite0 : Finite (hid0 X I0) := (H.fx.prod H.fi0).relu

theorem part1_mat (c : Dev nD) : mat4 (part1 m ρ c) = prod (hid0 X I0) (prod (cols c O0) (rows c I1)) := by
  rw [part1, pay5, sum_part0 H, pay2, H.o0, H.i1]
theorem sum_part1 (c : Dev nD) :
    relu4 (mat4 (part1 m ρ c)) (mat4 (part1 m ρ (fr c 0))) (mat4 (part1 m ρ (fr c 1))) (mat4 (part1 m ρ (fr c 2))) = hid1 X I0 I1 O0 := by
  refine (relu4_around (fun d => mat4 (part1 m ρ d)) c).trans (congrArg relu (funext fun i => funext fun j => ?_))
  simp only [part1_mat H]
  exact sum_prod_fused (finite0 H) H.fo0 H.fi1 i j
theorem finite1 : Finite (hid1 X I0 I1 O0) := (((finite0 H).prod H.fo0).prod H.fi1).relu

theorem part2_mat (c : Dev nD) : mat4 (part2 m ρ c) = prod (hid1 X I0 I1 O0) (prod (cols c O1) (rows c I2)) := by
  rw [part2, pay67, sum_part1 H, pay3, H.o1, H.i2]
theorem sum_part2 (c : Dev nD) :
    relu4 (mat4 (part2 m ρ c)) (mat4 (part2 m ρ (fr c 0))) (mat4 (part2 m ρ (fr c 1))) (mat4 (part2 m ρ (fr c 2))) = hid2 X I0 I1 I2 O0 O1 := by
  refine (relu4_around (fun d => mat4 (part2 m ρ d)) c).trans (congrArg relu (funext fun i => funext fun j => ?_))
  simp only [part2_mat H]
  exact sum_prod_fused (finite1 H) H.fo1 H.fi2 i j

/-- What a device stores is its columns of the network's output. -/
theorem out_mat (c : Dev nD) : mat (outAt m ρ c) = cols c (net X I0 I1 I2 O0 O1 O2) := by
  rw [outAt, pay489, sum_part2 H, H.o2]; rfl

end Kernel

/-! ## The claim -/

theorem algebraic : Cert.algebraic_KernelIdeal_ReferenceIdeal_pre_finite_KernelIdeal := fun m g m' g' hpre hin => by
  have hf (c : Dev nD) := finite_args _ _ _ _ _ _ _ (hpre c)
  have H : Holds m g (mat (m' (((0 : Dev Cert.ReferenceIdeal.nD).tc : Thread Cert.ReferenceIdeal.nD Cert.ReferenceIdeal.τ).loc Cert.ReferenceIdeal.main_arg0)))
      (mat (m' (((0 : Dev Cert.ReferenceIdeal.nD).tc : Thread Cert.ReferenceIdeal.nD Cert.ReferenceIdeal.τ).loc Cert.ReferenceIdeal.main_arg1)))
      (mat (m' (((0 : Dev Cert.ReferenceIdeal.nD).tc : Thread Cert.ReferenceIdeal.nD Cert.ReferenceIdeal.τ).loc Cert.ReferenceIdeal.main_arg2)))
      (mat (m' (((0 : Dev Cert.ReferenceIdeal.nD).tc : Thread Cert.ReferenceIdeal.nD Cert.ReferenceIdeal.τ).loc Cert.ReferenceIdeal.main_arg3)))
      (mat (m' (((0 : Dev Cert.ReferenceIdeal.nD).tc : Thread Cert.ReferenceIdeal.nD Cert.ReferenceIdeal.τ).loc Cert.ReferenceIdeal.main_arg4)))
      (mat (m' (((0 : Dev Cert.ReferenceIdeal.nD).tc : Thread Cert.ReferenceIdeal.nD Cert.ReferenceIdeal.τ).loc Cert.ReferenceIdeal.main_arg5)))
      (mat (m' (((0 : Dev Cert.ReferenceIdeal.nD).tc : Thread Cert.ReferenceIdeal.nD Cert.ReferenceIdeal.τ).loc Cert.ReferenceIdeal.main_arg6))) := by
    have e0 (c : Dev nD) := (congrArg mat (hin c).1).trans (mat_cols (n := 128) c _ _)
    have e1 (c : Dev nD) := (congrArg mat (hin c).2.1).trans (mat_rows (n := 128) c _ _)
    have e2 (c : Dev nD) := (congrArg mat (hin c).2.2.1).trans (mat_rows (n := 128) c _ _)
    have e3 (c : Dev nD) := (congrArg mat (hin c).2.2.2.1).trans (mat_rows (n := 128) c _ _)
    have e4 (c : Dev nD) := (congrArg mat (hin c).2.2.2.2.1).trans (mat_cols (n := 128) c _ _)
    have e5 (c : Dev nD) := (congrArg mat (hin c).2.2.2.2.2.1).trans (mat_cols (n := 128) c _ _)
    have e6 (c : Dev nD) := (congrArg mat (hin c).2.2.2.2.2.2).trans (mat_cols (n := 128) c _ _)
    exact
      { x := fun c => (congrArg mat (in0_eq m g c)).trans (e0 c)
        i0 := fun c => (congrArg mat (in1_eq m g c)).trans (e1 c)
        o0 := fun c => (congrArg mat (in2_eq m g c)).trans (e4 c)
        i1 := fun c => (congrArg mat (in3_eq m g c)).trans (e2 c)
        o1 := fun c => (congrArg mat (in4_eq m g c)).trans (e5 c)
        i2 := fun c => (congrArg mat (in5_eq m g c)).trans (e3 c)
        o2 := fun c => (congrArg mat (in6_eq m g c)).trans (e6 c)
        fx := finite_of_cols (n := 128) fun c => e0 c ▸ (hf c).1
        fi0 := finite_of_rows (n := 128) fun c => e1 c ▸ (hf c).2.1
        fi1 := finite_of_rows (n := 128) fun c => e2 c ▸ (hf c).2.2.1
        fi2 := finite_of_rows (n := 128) fun c => e3 c ▸ (hf c).2.2.2.1
        fo0 := finite_of_cols (n := 128) fun c => e4 c ▸ (hf c).2.2.2.2.1
        fo1 := finite_of_cols (n := 128) fun c => e5 c ▸ (hf c).2.2.2.2.2 }
  refine ⟨refOut _ _ _ _ _ _ _, (θ_run _ _ _).mono (fun r h c => ⟨((h.1 c).1).trans ?_, (h.1 c).2⟩) (run_values m g),
    (θ_run _ _ _).mono (fun r h => h 0) (Cert.ReferenceIdeal.Value.run m' g')⟩
  refine mat_injective ((out_mat H c).trans (Eq.trans ?_ (mat_cols (n := 128) c _ _).symm))
  exact congrArg (cols c) (refOut_mat _ _ _ _ _ _ _).symm

end Cert.Math

end
-- ==== Proof.lean ====
/-
# The certificate's claims

The kernel's frames, at the machine's floats and at the extended reals, are its run with the values dropped; the
reference's is its run. The kernel's result is the reference's by the mathematics of `Value`.
-/
module

public import proofs.«01_k».proof.Defs
public import proofs.«01_k».proof.Proof.LaunchKernel
public import proofs.«01_k».proof.Proof.LaunchKernelIdeal
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal

@[expose] public section

noncomputable section

namespace Cert.Proof

open Idealize.ShloMosaic Idealize.SL.Sem

/-- The machine's run leaves the arguments and the counters as they were. -/
theorem frame_kernel : Cert.quiescent_Kernel :=
  fun m g _ => (θ_run _ _ _).mono (fun _ h => ⟨fun c => (h.1 c).2, h.2⟩) (Cert.Kernel.Mlp.run_values m g)

/-- So does the run over the extended reals. -/
theorem frame_ideal : Cert.quiescent_KernelIdeal :=
  fun m g _ => (θ_run _ _ _).mono (fun _ h => ⟨fun c => (h.1 c).2, h.2⟩) (Cert.KernelIdeal.Mlp.run_values m g)

/-- So does the reference's, which has no semaphore. -/
theorem frame_reference : Cert.quiescent_ReferenceIdeal :=
  fun m g _ => (θ_run _ _ _).mono (fun r h => ⟨fun c => (h c).2, sem_eq_zero_of_no_sems (by decide) r.2⟩) (Cert.ReferenceIdeal.Value.run m g)

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  frame_kernel, frame_ideal, fun m g _ => frame_ideal m g trivial, frame_reference, fun m g _ => frame_reference m g trivial,
  trivial, Cert.Math.algebraic⟩

end Cert.Proof

end
